-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S480000x3 : Shape := ⟨2, ![480000, 3]⟩
abbrev S120 : Shape := ⟨1, ![120]⟩
abbrev S16 : Shape := ⟨1, ![16]⟩
abbrev S5x128 : Shape := ⟨2, ![5, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S480000x3 : S_.BroadcastsInDim S480000x3 (![] : Fin 0 → Fin S480000x3.rank)
  bcast_S_S128x3 : S_.BroadcastsInDim S128x3 (![] : Fin 0 → Fin S128x3.rank)
  bcast_S_S3 : S_.BroadcastsInDim S3 (![] : Fin 0 → Fin S3.rank)
  bcast_S_S120 : S_.BroadcastsInDim S120 (![] : Fin 0 → Fin S120.rank)

variable [Facts]

def fn_part1 {F : FTy → Type} [FloatOps F] (main_arg2 : IVec S120 32) (main_v2 : IVec S480000x3 1) (main_v5 : IVec S128x3 1) (main_v8 : IVec S3 1) (main_v13 : IVec S120 1) (main_v15 : IVec S120 1) (main_v16 : IVec S120 32) : IVec S480000x3 1 × IVec S128x3 1 × IVec S3 1 × IVec S120 1 × IVec S120 1 :=
  let main_v17 : IVec S120 1 := cmpi .slt main_arg2 main_v16
  let main_v18 : IVec S120 1 := andi main_v15 main_v17
  (main_v2, main_v5, main_v8, main_v13, main_v18)

def fn {F : FTy → Type} [FloatOps F] (main_arg0 : FVec F S480000x3 .f32) (main_arg1 : IVec S120 32) (main_arg2 : IVec S120 32) (main_arg3 : FVec F S16 .f32) (main_arg4 : FVec F S5x128 .f32) (main_arg5 : FVec F S128 .f32) (main_arg6 : FVec F S128x128 .f32) (main_arg7 : FVec F S128 .f32) (main_arg8 : FVec F S128x128 .f32) (main_arg9 : FVec F S128 .f32) (main_arg10 : FVec F S128x3 .f32) (main_arg11 : FVec F S3 .f32) : IVec S480000x3 1 × IVec S128x3 1 × IVec S3 1 × IVec S120 1 × IVec S120 1 :=
  let main_v0 : FVec F S480000x3 .f32 := Host.absf main_arg0
  let main_cst : FVec F S_ .f32 := constant S_ .f32 0x7F800000#32
  let main_v1 : FVec F S480000x3 .f32 := broadcastInDim S480000x3 ![] bcast_S_S480000x3 main_cst
  let main_v2 : IVec S480000x3 1 := cmpf .olt main_v0 main_v1
  let main_v3 : FVec F S128x3 .f32 := Host.absf main_arg10
  let main_cst_0 : FVec F S_ .f32 := constant S_ .f32 0x7F800000#32
  let main_v4 : FVec F S128x3 .f32 := broadcastInDim S128x3 ![] bcast_S_S128x3 main_cst_0
  let main_v5 : IVec S128x3 1 := cmpf .olt main_v3 main_v4
  let main_v6 : FVec F S3 .f32 := Host.absf main_arg11
  let main_cst_1 : FVec F S_ .f32 := constant S_ .f32 0x7F800000#32
  let main_v7 : FVec F S3 .f32 := broadcastInDim S3 ![] bcast_S_S3 main_cst_1
  let main_v8 : IVec S3 1 := cmpf .olt main_v6 main_v7
  let main_c : IVec S_ 32 := constantI S_ 32 0#32
  let main_v9 : IVec S120 32 := broadcastInDim S120 ![] bcast_S_S120 main_c
  let main_v10 : IVec S120 1 := cmpi .sge main_arg1 main_v9
  let main_c_2 : IVec S_ 32 := constantI S_ 32 16#32
  let main_v11 : IVec S120 32 := broadcastInDim S120 ![] bcast_S_S120 main_c_2
  let main_v12 : IVec S120 1 := cmpi .slt main_arg1 main_v11
  let main_v13 : IVec S120 1 := andi main_v10 main_v12
  let main_c_3 : IVec S_ 32 := constantI S_ 32 0#32
  let main_v14 : IVec S120 32 := broadcastInDim S120 ![] bcast_S_S120 main_c_3
  let main_v15 : IVec S120 1 := cmpi .sge main_arg2 main_v14
  let main_c_4 : IVec S_ 32 := constantI S_ 32 16#32
  let main_v16 : IVec S120 32 := broadcastInDim S120 ![] bcast_S_S120 main_c_4
  fn_part1 (F := F) main_arg2 main_v2 main_v5 main_v8 main_v13 main_v15 main_v16
-- ==== Kernel.lean ====
abbrev S480000x3 : Shape := ⟨2, ![480000, 3]⟩
abbrev S120 : Shape := ⟨1, ![120]⟩
abbrev S16 : Shape := ⟨1, ![16]⟩
abbrev S5x128 : Shape := ⟨2, ![5, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S11520x3 : Shape := ⟨2, ![11520, 3]⟩
abbrev S491520x3 : Shape := ⟨2, ![491520, 3]⟩
abbrev S3x491520 : Shape := ⟨2, ![3, 491520]⟩
abbrev S3x3840x128 : Shape := ⟨3, ![3, 3840, 128]⟩
abbrev S120x1 : Shape := ⟨2, ![120, 1]⟩
abbrev S1x120 : Shape := ⟨2, ![1, 120]⟩
abbrev S256x120 : Shape := ⟨2, ![256, 120]⟩
abbrev S30720 : Shape := ⟨1, ![30720]⟩
abbrev S240x128 : Shape := ⟨2, ![240, 128]⟩
abbrev S1x240x128 : Shape := ⟨3, ![1, 240, 128]⟩
abbrev S2x240x128 : Shape := ⟨3, ![2, 240, 128]⟩
abbrev S8x3840x128 : Shape := ⟨3, ![8, 3840, 128]⟩
abbrev S3x240x128 : Shape := ⟨3, ![3, 240, 128]⟩
abbrev S8x240x128 : Shape := ⟨3, ![8, 240, 128]⟩
abbrev S3x128 : Shape := ⟨2, ![3, 128]⟩
abbrev S8x128 : Shape := ⟨2, ![8, 128]⟩
abbrev S1x128 : Shape := ⟨2, ![1, 128]⟩
abbrev S8x491520 : Shape := ⟨2, ![8, 491520]⟩
abbrev S8x15360 : Shape := ⟨2, ![8, 15360]⟩
abbrev S3x15360 : Shape := ⟨2, ![3, 15360]⟩
abbrev S15360x128 : Shape := ⟨2, ![15360, 128]⟩
abbrev S3x1 : Shape := ⟨2, ![3, 1]⟩
abbrev S5x1 : Shape := ⟨2, ![5, 1]⟩
abbrev S8x1 : Shape := ⟨2, ![8, 1]⟩
abbrev S1x1 : Shape := ⟨2, ![1, 1]⟩
abbrev S1x16 : Shape := ⟨2, ![1, 16]⟩
abbrev S120x16 : Shape := ⟨2, ![120, 16]⟩
abbrev S3x4096x120 : Shape := ⟨3, ![3, 4096, 120]⟩
abbrev S3x4096x16 : Shape := ⟨3, ![3, 4096, 16]⟩
abbrev S3x1024x120 : Shape := ⟨3, ![3, 1024, 120]⟩
abbrev S3x1024x16 : Shape := ⟨3, ![3, 1024, 16]⟩
abbrev S3072x120 : Shape := ⟨2, ![3072, 120]⟩
abbrev S3072x16 : Shape := ⟨2, ![3072, 16]⟩
abbrev S3x65536 : Shape := ⟨2, ![3, 65536]⟩
abbrev S65536x3 : Shape := ⟨2, ![65536, 3]⟩
abbrev S64000x3 : Shape := ⟨2, ![64000, 3]⟩

abbrev nBuf : Space → Nat
  | .hbm => 101
  | .vmem => 25
  | .smem => 0
  | _ => 0

abbrev bufTy : (tb : Table) → Fin (tcTables nBuf tb) → BufTy
  | .hbm, ⟨0, _⟩ => ⟨S480000x3, .f32⟩
  | .hbm, ⟨1, _⟩ => ⟨S120, .i32⟩
  | .hbm, ⟨2, _⟩ => ⟨S120, .i32⟩
  | .hbm, ⟨3, _⟩ => ⟨S16, .f32⟩
  | .hbm, ⟨4, _⟩ => ⟨S5x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x3, .f32⟩
  | .hbm, ⟨11, _⟩ => ⟨S3, .f32⟩
  | .hbm, ⟨12, _⟩ => ⟨S_, .f32⟩
  | .hbm, ⟨13, _⟩ => ⟨S11520x3, .f32⟩
  | .hbm, ⟨14, _⟩ => ⟨S491520x3, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S3x491520, .f32⟩
  | .hbm, ⟨24, _⟩ => ⟨S3x3840x128, .f32⟩
  | .hbm, ⟨25, _⟩ => ⟨S_, .i32⟩
  | .hbm, ⟨26, _⟩ => ⟨S120, .i32⟩
  | .hbm, ⟨27, _⟩ => ⟨S120, .i1⟩
  | .hbm, ⟨28, _⟩ => ⟨S_, .i32⟩
  | .hbm, ⟨29, _⟩ => ⟨S120, .i32⟩
  | .hbm, ⟨30, _⟩ => ⟨S120, .i32⟩
  | .hbm, ⟨31, _⟩ => ⟨S120, .i32⟩
  | .hbm, ⟨32, _⟩ => ⟨S120x1, .i32⟩
  | .hbm, ⟨33, _⟩ => ⟨S120, .f32⟩
  | .hbm, ⟨34, _⟩ => ⟨S1x120, .f32⟩
  | .hbm, ⟨35, _⟩ => ⟨S256x120, .f32⟩
  | .hbm, ⟨36, _⟩ => ⟨S30720, .f32⟩
  | .hbm, ⟨37, _⟩ => ⟨S240x128, .f32⟩
  | .hbm, ⟨38, _⟩ => ⟨S_, .i32⟩
  | .hbm, ⟨39, _⟩ => ⟨S120, .i32⟩
  | .hbm, ⟨40, _⟩ => ⟨S120, .i1⟩
  | .hbm, ⟨41, _⟩ => ⟨S_, .i32⟩
  | .hbm, ⟨42, _⟩ => ⟨S120, .i32⟩
  | .hbm, ⟨43, _⟩ => ⟨S120, .i32⟩
  | .hbm, ⟨44, _⟩ => ⟨S120, .i32⟩
  | .hbm, ⟨45, _⟩ => ⟨S120x1, .i32⟩
  | .hbm, ⟨46, _⟩ => ⟨S120, .f32⟩
  | .hbm, ⟨47, _⟩ => ⟨S1x120, .f32⟩
  | .hbm, ⟨48, _⟩ => ⟨S256x120, .f32⟩
  | .hbm, ⟨49, _⟩ => ⟨S30720, .f32⟩
  | .hbm, ⟨50, _⟩ => ⟨S240x128, .f32⟩
  | .hbm, ⟨51, _⟩ => ⟨S1x240x128, .f32⟩
  | .hbm, ⟨52, _⟩ => ⟨S1x240x128, .f32⟩
  | .hbm, ⟨53, _⟩ => ⟨S2x240x128, .f32⟩
  | .hbm, ⟨54, _⟩ => ⟨S8x3840x128, .bf16⟩
  | .hbm, ⟨55, _⟩ => ⟨S_, .f32⟩
  | .hbm, ⟨56, _⟩ => ⟨S3x128, .f32⟩
  | .hbm, ⟨57, _⟩ => ⟨S8x128, .f32⟩
  | .hbm, ⟨58, _⟩ => ⟨S8x128, .bf16⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S3x128, .f32⟩
  | .hbm, ⟨63, _⟩ => ⟨S_, .f32⟩
  | .hbm, ⟨64, _⟩ => ⟨S5x128, .f32⟩
  | .hbm, ⟨65, _⟩ => ⟨S8x128, .f32⟩
  | .hbm, ⟨66, _⟩ => ⟨S8x491520, .bf16⟩
  | .hbm, ⟨67, _⟩ => ⟨S128x128, .bf16⟩
  | .hbm, ⟨68, _⟩ => ⟨S128x128, .bf16⟩
  | .hbm, ⟨69, _⟩ => ⟨S128x3, .bf16⟩
  | .hbm, ⟨70, _⟩ => ⟨S3x491520, .f32⟩
  | .hbm, ⟨71, _⟩ => ⟨S3x1, .f32⟩
  | .hbm, ⟨72, _⟩ => ⟨S_, .f32⟩
  | .hbm, ⟨73, _⟩ => ⟨S5x1, .f32⟩
  | .hbm, ⟨74, _⟩ => ⟨S8x1, .f32⟩
  | .hbm, ⟨75, _⟩ => ⟨S3x3840x128, .f32⟩
  | .hbm, ⟨76, _⟩ => ⟨S3x3840x128, .bf16⟩
  | .hbm, ⟨77, _⟩ => ⟨S120x1, .i32⟩
  | .hbm, ⟨78, _⟩ => ⟨S1x16, .i32⟩
  | .hbm, ⟨79, _⟩ => ⟨S120x16, .i32⟩
  | .hbm, ⟨80, _⟩ => ⟨S120x16, .i32⟩
  | .hbm, ⟨81, _⟩ => ⟨S120x16, .i1⟩
  | .hbm, ⟨82, _⟩ => ⟨S120x16, .f32⟩
  | .hbm, ⟨83, _⟩ => ⟨S120x1, .i32⟩
  | .hbm, ⟨84, _⟩ => ⟨S1x16, .i32⟩
  | .hbm, ⟨85, _⟩ => ⟨S120x16, .i32⟩
  | .hbm, ⟨86, _⟩ => ⟨S120x16, .i32⟩
  | .hbm, ⟨87, _⟩ => ⟨S120x16, .i1⟩
  | .hbm, ⟨88, _⟩ => ⟨S120x16, .f32⟩
  | .hbm, ⟨89, _⟩ => ⟨S120x16, .f32⟩
  | .hbm, ⟨90, _⟩ => ⟨S120x16, .bf16⟩
  | .hbm, ⟨91, _⟩ => ⟨S16, .f32⟩
  | .hbm, ⟨92, _⟩ => ⟨S_, .f32⟩
  | .hbm, ⟨93, _⟩ => ⟨S16, .f32⟩
  | .hbm, ⟨94, _⟩ => ⟨S16, .f32⟩
  | .hbm, ⟨95, _⟩ => ⟨S1x16, .f32⟩
  | .hbm, ⟨96, _⟩ => ⟨S3x4096x120, .bf16⟩
  | .hbm, ⟨97, _⟩ => ⟨S3x4096x16, .f32⟩
  | .hbm, ⟨98, _⟩ => ⟨S3x65536, .f32⟩
  | .hbm, ⟨99, _⟩ => ⟨S65536x3, .f32⟩
  | .hbm, ⟨100, _⟩ => ⟨S64000x3, .f32⟩
  | .local _ .vmem, ⟨0, _⟩ => ⟨S3x240x128, .f32⟩
  | .local _ .vmem, ⟨1, _⟩ => ⟨S3x240x128, .f32⟩
  | .local _ .vmem, ⟨2, _⟩ => ⟨S2x240x128, .f32⟩
  | .local _ .vmem, ⟨3, _⟩ => ⟨S8x240x128, .bf16⟩
  | .local _ .vmem, ⟨4, _⟩ => ⟨S8x240x128, .bf16⟩
  | .local _ .vmem, ⟨5, _⟩ => ⟨S8x15360, .bf16⟩
  | .local _ .vmem, ⟨6, _⟩ => ⟨S8x15360, .bf16⟩
  | .local _ .vmem, ⟨7, _⟩ => ⟨S8x128, .bf16⟩
  | .local _ .vmem, ⟨8, _⟩ => ⟨S128x128, .bf16⟩
  | .local _ .vmem, ⟨9, _⟩ => ⟨S128x128, .bf16⟩
  | .local _ .vmem, ⟨10, _⟩ => ⟨S128x3, .bf16⟩
  | .local _ .vmem, ⟨11, _⟩ => ⟨S8x128, .f32⟩
  | .local _ .vmem, ⟨12, _⟩ => ⟨S3x15360, .f32⟩
  | .local _ .vmem, ⟨13, _⟩ => ⟨S3x15360, .f32⟩
  | .local _ .vmem, ⟨14, _⟩ => ⟨S3x240x128, .f32⟩
  | .local _ .vmem, ⟨15, _⟩ => ⟨S3x240x128, .f32⟩
  | .local _ .vmem, ⟨16, _⟩ => ⟨S8x1, .f32⟩
  | .local _ .vmem, ⟨17, _⟩ => ⟨S3x240x128, .bf16⟩
  | .local _ .vmem, ⟨18, _⟩ => ⟨S3x240x128, .bf16⟩
  | .local _ .vmem, ⟨19, _⟩ => ⟨S3x1024x120, .bf16⟩
  | .local _ .vmem, ⟨20, _⟩ => ⟨S3x1024x120, .bf16⟩
  | .local _ .vmem, ⟨21, _⟩ => ⟨S120x16, .bf16⟩
  | .local _ .vmem, ⟨22, _⟩ => ⟨S1x16, .f32⟩
  | .local _ .vmem, ⟨23, _⟩ => ⟨S3x1024x16, .f32⟩
  | .local _ .vmem, ⟨24, _⟩ => ⟨S3x1024x16, .f32⟩
  | _, _ => ⟨S480000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v50 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x240x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x240x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x240x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x15360 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x3 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3x15360 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S3x240x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3x240x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S3x1024x120 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S120x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S3x1024x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== ReferenceIdeal.lean ====
abbrev S480000x3 : Shape := ⟨2, ![480000, 3]⟩
abbrev S120 : Shape := ⟨1, ![120]⟩
abbrev S16 : Shape := ⟨1, ![16]⟩
abbrev S5x128 : Shape := ⟨2, ![5, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S1x16 : Shape := ⟨2, ![1, 16]⟩
abbrev S4000x16 : Shape := ⟨2, ![4000, 16]⟩
abbrev S64000 : Shape := ⟨1, ![64000]⟩
abbrev S64000x1 : Shape := ⟨2, ![64000, 1]⟩
abbrev S4000 : Shape := ⟨1, ![4000]⟩
abbrev S4000x120 : Shape := ⟨2, ![4000, 120]⟩
abbrev S480000 : Shape := ⟨1, ![480000]⟩
abbrev S1x120 : Shape := ⟨2, ![1, 120]⟩
abbrev S480000x1 : Shape := ⟨2, ![480000, 1]⟩
abbrev S480000x5 : Shape := ⟨2, ![480000, 5]⟩
abbrev S480000x128 : Shape := ⟨2, ![480000, 128]⟩
abbrev S1x128 : Shape := ⟨2, ![1, 128]⟩
abbrev S1x3 : Shape := ⟨2, ![1, 3]⟩
abbrev S64000x3 : Shape := ⟨2, ![64000, 3]⟩

abbrev nBuf : Space → Nat
  | .hbm => 127
  | .vmem => 0
  | .smem => 0
  | _ => 0

abbrev bufTy : (tb : Table) → Fin (tcTables nBuf tb) → BufTy
  | .hbm, ⟨0, _⟩ => ⟨S480000x3, .f32⟩
  | .hbm, ⟨1, _⟩ => ⟨S120, .i32⟩
  | .hbm, ⟨2, _⟩ => ⟨S120, .i32⟩
  | .hbm, ⟨3, _⟩ => ⟨S16, .f32⟩
  | .hbm, ⟨4, _⟩ => ⟨S5x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x3, .f32⟩
  | .hbm, ⟨11, _⟩ => ⟨S3, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S1x16, .f32⟩
  | .hbm, ⟨21, _⟩ => ⟨S4000x16, .f32⟩
  | .hbm, ⟨22, _⟩ => ⟨S64000, .f32⟩
  | .hbm, ⟨23, _⟩ => ⟨S64000x1, .f32⟩
  | .hbm, ⟨24, _⟩ => ⟨S4000, .i32⟩
  | .hbm, ⟨25, _⟩ => ⟨S_, .i32⟩
  | .hbm, ⟨26, _⟩ => ⟨S4000, .i32⟩
  | .hbm, ⟨27, _⟩ => ⟨S4000, .i32⟩
  | .hbm, ⟨28, _⟩ => ⟨S4000x120, .i32⟩
  | .hbm, ⟨29, _⟩ => ⟨S480000, .i32⟩
  | .hbm, ⟨30, _⟩ => ⟨S1x120, .i32⟩
  | .hbm, ⟨31, _⟩ => ⟨S4000x120, .i32⟩
  | .hbm, ⟨32, _⟩ => ⟨S480000, .i32⟩
  | .hbm, ⟨33, _⟩ => ⟨S480000, .i32⟩
  | .hbm, ⟨34, _⟩ => ⟨S1x120, .i32⟩
  | .hbm, ⟨35, _⟩ => ⟨S4000x120, .i32⟩
  | .hbm, ⟨36, _⟩ => ⟨S480000, .i32⟩
  | .hbm, ⟨37, _⟩ => ⟨S480000, .i32⟩
  | .hbm, ⟨38, _⟩ => ⟨S480000x3, .f32⟩
  | .hbm, ⟨39, _⟩ => ⟨S_, .f32⟩
  | .hbm, ⟨40, _⟩ => ⟨S480000, .f32⟩
  | .hbm, ⟨41, _⟩ => ⟨S480000x1, .f32⟩
  | .hbm, ⟨42, _⟩ => ⟨S_, .f32⟩
  | .hbm, ⟨43, _⟩ => ⟨S480000x1, .f32⟩
  | .hbm, ⟨44, _⟩ => ⟨S480000x1, .f32⟩
  | .hbm, ⟨45, _⟩ => ⟨S480000x1, .f32⟩
  | .hbm, ⟨46, _⟩ => ⟨S480000x1, .f32⟩
  | .hbm, ⟨47, _⟩ => ⟨S480000x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S480000x1, .f32⟩
  | .hbm, ⟨52, _⟩ => ⟨S480000x1, .f32⟩
  | .hbm, ⟨53, _⟩ => ⟨S_, .f32⟩
  | .hbm, ⟨54, _⟩ => ⟨S480000x1, .f32⟩
  | .hbm, ⟨55, _⟩ => ⟨S480000x1, .f32⟩
  | .hbm, ⟨56, _⟩ => ⟨S480000x1, .f32⟩
  | .hbm, ⟨57, _⟩ => ⟨S480000x1, .f32⟩
  | .hbm, ⟨58, _⟩ => ⟨S480000x1, .f32⟩
  | .hbm, ⟨59, _⟩ => ⟨S480000x1, .f32⟩
  | .hbm, ⟨60, _⟩ => ⟨S480000x3, .f32⟩
  | .hbm, ⟨61, _⟩ => ⟨S_, .i32⟩
  | .hbm, ⟨62, _⟩ => ⟨S480000, .i32⟩
  | .hbm, ⟨63, _⟩ => ⟨S480000, .i1⟩
  | .hbm, ⟨64, _⟩ => ⟨S_, .i32⟩
  | .hbm, ⟨65, _⟩ => ⟨S480000, .i32⟩
  | .hbm, ⟨66, _⟩ => ⟨S480000, .i32⟩
  | .hbm, ⟨67, _⟩ => ⟨S480000, .i32⟩
  | .hbm, ⟨68, _⟩ => ⟨S480000x1, .i32⟩
  | .hbm, ⟨69, _⟩ => ⟨S480000x1, .f32⟩
  | .hbm, ⟨70, _⟩ => ⟨S_, .i32⟩
  | .hbm, ⟨71, _⟩ => ⟨S480000, .i32⟩
  | .hbm, ⟨72, _⟩ => ⟨S480000, .i1⟩
  | .hbm, ⟨73, _⟩ => ⟨S_, .i32⟩
  | .hbm, ⟨74, _⟩ => ⟨S480000, .i32⟩
  | .hbm, ⟨75, _⟩ => ⟨S480000, .i32⟩
  | .hbm, ⟨76, _⟩ => ⟨S480000, .i32⟩
  | .hbm, ⟨77, _⟩ => ⟨S480000x1, .i32⟩
  | .hbm, ⟨78, _⟩ => ⟨S480000x1, .f32⟩
  | .hbm, ⟨79, _⟩ => ⟨S480000x5, .f32⟩
  | .hbm, ⟨80, _⟩ => ⟨S480000x128, .f32⟩
  | .hbm, ⟨81, _⟩ => ⟨S1x128, .f32⟩
  | .hbm, ⟨82, _⟩ => ⟨S480000x128, .f32⟩
  | .hbm, ⟨83, _⟩ => ⟨S480000x128, .f32⟩
  | .hbm, ⟨84, _⟩ => ⟨S480000x128, .f32⟩
  | .hbm, ⟨85, _⟩ => ⟨S480000x128, .f32⟩
  | .hbm, ⟨86, _⟩ => ⟨S1x128, .f32⟩
  | .hbm, ⟨87, _⟩ => ⟨S480000x128, .f32⟩
  | .hbm, ⟨88, _⟩ => ⟨S480000x128, .f32⟩
  | .hbm, ⟨89, _⟩ => ⟨S480000x128, .f32⟩
  | .hbm, ⟨90, _⟩ => ⟨S480000x128, .f32⟩
  | .hbm, ⟨91, _⟩ => ⟨S1x128, .f32⟩
  | .hbm, ⟨92, _⟩ => ⟨S480000x128, .f32⟩
  | .hbm, ⟨93, _⟩ => ⟨S480000x128, .f32⟩
  | .hbm, ⟨94, _⟩ => ⟨S480000x128, .f32⟩
  | .hbm, ⟨95, _⟩ => ⟨S480000x3, .f32⟩
  | .hbm, ⟨96, _⟩ => ⟨S1x3, .f32⟩
  | .hbm, ⟨97, _⟩ => ⟨S480000x3, .f32⟩
  | .hbm, ⟨98, _⟩ => ⟨S480000x3, .f32⟩
  | .hbm, ⟨99, _⟩ => ⟨S480000x1, .f32⟩
  | .hbm, ⟨100, _⟩ => ⟨S480000x1, .f32⟩
  | .hbm, ⟨101, _⟩ => ⟨S480000x1, .f32⟩
  | .hbm, ⟨102, _⟩ => ⟨S480000x1, .f32⟩
  | .hbm, ⟨103, _⟩ => ⟨S480000x1, .f32⟩
  | .hbm, ⟨104, _⟩ => ⟨S480000x1, .f32⟩
  | .hbm, ⟨105, _⟩ => ⟨S480000x1, .f32⟩
  | .hbm, ⟨106, _⟩ => ⟨S480000x1, .f32⟩
  | .hbm, ⟨107, _⟩ => ⟨S480000x1, .f32⟩
  | .hbm, ⟨108, _⟩ => ⟨S480000x1, .f32⟩
  | .hbm, ⟨109, _⟩ => ⟨S480000x1, .f32⟩
  | .hbm, ⟨110, _⟩ => ⟨S480000x1, .f32⟩
  | .hbm, ⟨111, _⟩ => ⟨S480000x1, .f32⟩
  | .hbm, ⟨112, _⟩ => ⟨S480000x3, .f32⟩
  | .hbm, ⟨113, _⟩ => ⟨S_, .f32⟩
  | .hbm, ⟨114, _⟩ => ⟨S64000x3, .f32⟩
  | .hbm, ⟨115, _⟩ => ⟨S480000x1, .i32⟩
  | .hbm, ⟨116, _⟩ => ⟨S64000x3, .f32⟩
  | .hbm, ⟨117, _⟩ => ⟨S_, .f32⟩
  | .hbm, ⟨118, _⟩ => ⟨S64000x3, .f32⟩
  | .hbm, ⟨119, _⟩ => ⟨S480000x1, .i32⟩
  | .hbm, ⟨120, _⟩ => ⟨S64000x3, .f32⟩
  | .hbm, ⟨121, _⟩ => ⟨S64000x3, .f32⟩
  | .hbm, ⟨122, _⟩ => ⟨S_, .f32⟩
  | .hbm, ⟨123, _⟩ => ⟨S64000x1, .f32⟩
  | .hbm, ⟨124, _⟩ => ⟨S64000x1, .f32⟩
  | .hbm, ⟨125, _⟩ => ⟨S64000x3, .f32⟩
  | .hbm, ⟨126, _⟩ => ⟨S64000x3, .f32⟩
  | _, _ => ⟨S480000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_c_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_7 : Ref sig .tc := ⟨.hbm, 70, rfl⟩
abbrev main_v39 : Ref sig .tc := ⟨.hbm, 71, rfl⟩
abbrev main_v40 : Ref sig .tc := ⟨.hbm, 72, rfl⟩
abbrev main_c_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_9 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_10 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_11 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]
-- ==== Proof.RefFrame.lean ====
/- The reference program's frame. -/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The reference runs, leaves its arguments as they were, and has no semaphore that could count. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.KRun.lean ====
/- The idealized kernel's run, with its result array read at the end. -/
module

public import proofs.«01_k».proof.Proof.Gen.KernelIdeal.Frame

@[expose] public section

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run lemma's implicit arguments are found by unifying its conclusion, which unfolds plain definitions in types
set_option backward.isDefEq.respectTransparency.types false in
/-- The run of the program: it ends, the result array holds the last boundary's contents, the arguments are unchanged. -/
theorem run : θ_run defs (onTc (τ := τ) (main (F := F))) ⟨m, fun _ => 0, ρ⟩ (fun r => (∀ c : Dev nD,
      r.2.mem ((c.tc : Thread nD τ).loc main_v62) = W13 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨(fun c =>
      ⟨h c _ (mem_uc main_v62 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩), funext fun g => hz g (.inr (no_unscoped g.2))⟩)

end Cert.KRun

end
-- ==== Proof.Net.lean ====
/- The formulas of the calls at one edge, over extended reals. -/
module

public import Idealize.ShloMosaic.Lib.Pointwise

@[expose] public section

noncomputable section

namespace Cert.KValue

open Idealize.ShloMosaic

/-- The guard constant of the squared length. -/
def eps : EReal := Ideal.ofBits .f32 730643660#32

/-- The squared length of an edge with the guard constant added. -/
def rr (x y z : EReal) : EReal := x * x + y * y + z * z + eps

/-- The polar angle as the call computes it. -/
def th (x y z : EReal) : EReal :=
  Ideal.atan2 (Ideal.sqrt (max (1 - (z * Ideal.rsqrt (rr x y z)) * (z * Ideal.rsqrt (rr x y z))) 0))
    (z * Ideal.rsqrt (rr x y z))

/-- Slab `k` of the features of an edge at `(x, y, z)` whose two end points have `l0`, `l1`. -/
def feat (x y z l0 l1 : EReal) (k : Fin 8) : EReal :=
  if k.val < 1 then rr x y z * Ideal.rsqrt (rr x y z)
  else if k.val < 2 then th x y z
  else if k.val < 3 then Ideal.atan2 y x
  else if k.val < 4 then l0
  else if k.val < 5 then l1
  else 0

/-- Coordinate `k` of the vector with spherical coordinates `(r, t, p)`. -/
def cart (r t p : EReal) (k : Fin 3) : EReal :=
  if k.val < 1 then r * Ideal.sin t * Ideal.cos p
  else if k.val < 2 then r * Ideal.sin t * Ideal.sin p
  else r * Ideal.cos t

/-- One layer: a product with a matrix, a bias, the hyperbolic tangent. -/
def dense {n q : ℕ} (x : Fin n → EReal) (W : Fin n → Fin q → EReal) (b : Fin q → EReal) (j : Fin q) : EReal :=
  Ideal.tanh (∑ k, x k * W k j + b j)

/-- The three layers and the last product, the last factors in the call's order. -/
def net {n : ℕ} (x : Fin n → EReal) (W1 : Fin n → Fin 128 → EReal) (W2 W3 : Fin 128 → Fin 128 → EReal) (W4 : Fin 128 → Fin 3 → EReal)
    (b1 b2 b3 : Fin 128 → EReal) (k : Fin 3) : EReal :=
  ∑ j, W4 j k * dense (dense (dense x W1 b1) W2 b2) W3 b3 j

/-- A number held between -12 and 12. -/
def clip (x : EReal) : EReal := min (Ideal.ofBits .f32 1094713344#32) (max (Ideal.ofBits .f32 3242196992#32) x)

end Cert.KValue

end
-- ==== Proof.Region0.lean ====
/- The first call's result array: features of every edge, slab by slab. -/
module

public import proofs.«01_k».proof.Proof.Gen.KernelIdeal.Frame
public import Idealize.ShloMosaic.Lib.Pipeline.ValueKit
public import Idealize.ShloMosaic.Lib.Pointwise
public import proofs.«01_k».proof.Proof.Net

@[expose] public section

set_option maxRecDepth 16384

noncomputable section

namespace Cert.KValue

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Which block each window shows at a grid point. -/
theorem idx0 : ∀ t : Fin cfg0.N, win0_0.index t = ![0, t.val, 0] ∧ win0_1.index t = ![0, 0, 0] ∧ win0_2.index t = ![0, t.val, 0] :=
  (by decide +kernel : ∀ t : Fin grid0.N, _)

/-- The first call's result as one array of its two operands. -/
def G0 (P : FVec Ideal S3x3840x128 .f32) (L : FVec Ideal S2x240x128 .f32) : FVec Ideal S8x3840x128 .bf16 := fun i =>
  feat (P (ix3 0 (i 1) (i 2))) (P (ix3 1 (i 1) (i 2))) (P (ix3 2 (i 1) (i 2)))
    (L (ix3 0 ⟨(i 1).val % 240, Nat.mod_lt _ (by norm_num)⟩ (i 2))) (L (ix3 1 ⟨(i 1).val % 240, Nat.mod_lt _ (by norm_num)⟩ (i 2))) (i 0)

/-- What one grid point of the first call leaves in its block. -/
theorem pay0 (x0 : Vec Ideal S3x240x128 .f32) (x1 : Vec Ideal S2x240x128 .f32) (k : Fin 8) (a : Fin 240) (b : Fin 128) :
    out0_2 x0 x1 (ix3 k a b) = feat (x0 (ix3 0 a b)) (x0 (ix3 1 a b)) (x0 (ix3 2 a b)) (x1 (ix3 0 a b)) (x1 (ix3 1 a b)) k := by
  frame_out
  pointwise [k0_pay1]
  rcases k with ⟨k, hk⟩
  interval_cases k
  all_goals first | rfl | simp [feat, th, rr, eps]

/-- A block's row lies in the array. -/
theorem lt3840 (t : Fin cfg0.N) (a : Fin 240) : t.val * 240 + a.val < 3840 := by
  have h : t.val < 16 := t.isLt
  omega

/-- Where an entry of the result's block lies in its array. -/
theorem emb0_2 (t : Fin cfg0.N) (k : Fin 8) (a : Fin 240) (b : Fin 128) :
    (win0_2.blk t).view.emb (ix3 k a b) = ix3 k ⟨t.val * 240 + a.val, lt3840 t a⟩ b := by blk_ext [idx0 t]

/-- Where an entry of operand 0's block lies in its array. -/
theorem emb0_0 (t : Fin cfg0.N) (k : Fin 3) (a : Fin 240) (b : Fin 128) :
    (win0_0.blk t).view.emb (ix3 k a b) = ix3 k ⟨t.val * 240 + a.val, lt3840 t a⟩ b := by blk_ext [idx0 t]

/-- Where an entry of operand 1's block lies in its array. -/
theorem emb0_1 (t : Fin cfg0.N) (k : Fin 2) (a : Fin 240) (b : Fin 128) :
    (win0_1.blk t).view.emb (ix3 k a b) = ix3 k a b := by blk_ext [idx0 t]

/-- A row's place in its tile. -/
theorem mod240 (t : ℕ) (a : Fin 240) (h) : (⟨(t * 240 + a.val) % 240, h⟩ : Fin 240) = a := Fin.ext (by
  have := a.isLt
  show (t * 240 + a.val) % 240 = a.val
  omega)

/-- An entry of operand 0's block, read from its array. -/
theorem blk0_0 (c : Dev nD) (t : Fin cfg0.N) (k : Fin 3) (a : Fin 240) (b : Fin 128) :
    iblk0 V c 0 t (ix3 k a b) = V c main_v4 (ix3 k ⟨t.val * 240 + a.val, lt3840 t a⟩ b) := by
  blk_simp [iblk0]; exact congrArg _ (emb0_0 t k a b)

/-- An entry of operand 1's block, read from its array. -/
theorem blk0_1 (c : Dev nD) (t : Fin cfg0.N) (k : Fin 2) (a : Fin 240) (b : Fin 128) :
    iblk0 V c 1 t (ix3 k a b) = V c main_v29 (ix3 k a b) := by
  blk_simp [iblk0]; exact congrArg _ (emb0_1 t k a b)

/-- The first call's result array. -/
theorem final0 (c : Dev nD) : (dat0 V c).arrAt 2 cfg0.N = G0 (V c main_v4) (V c main_v29) := by
  refine (dat0 V c).arrAt_eq_of_covers 2 _ (by decide +kernel) fun t hf y => ?_
  blk_simp
  rw [after0_2]
  idx_vars y
  refine (pay0 (iblk0 V c 0 t) (iblk0 V c 1 t) y0 y1 y2).trans (Eq.trans ?_ (congrArg _ (emb0_2 t y0 y1 y2)).symm)
  simp only [blk0_0, blk0_1, G0, ix3, mod240]

end Cert.KValue

end
-- ==== Proof.Region1.lean ====
/- The second call's result array: the network at every edge. -/
module

public import proofs.«01_k».proof.Proof.Gen.KernelIdeal.Frame
public import Idealize.ShloMosaic.Lib.Pipeline.ValueKit
public import Idealize.ShloMosaic.Lib.Pointwise
public import proofs.«01_k».proof.Proof.Net

@[expose] public section

set_option maxRecDepth 16384

noncomputable section

namespace Cert.KValue

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Which block each window shows at a grid point. -/
theorem idx1 : ∀ t : Fin cfg1.N, win1_0.index t = ![0, t.val] ∧ win1_1.index t = ![0, 0] ∧ win1_2.index t = ![0, 0] ∧ win1_3.index t = ![0, 0]
      ∧ win1_4.index t = ![0, 0] ∧ win1_5.index t = ![0, 0] ∧ win1_6.index t = ![0, t.val] :=
  (by decide +kernel : ∀ t : Fin grid1.N, _)

/-- The second call's result as one array of its six operands. -/
def G1 (X : FVec Ideal S8x491520 .bf16) (W1 : FVec Ideal S8x128 .bf16) (W2 W3 : FVec Ideal S128x128 .bf16) (W4 : FVec Ideal S128x3 .bf16)
    (B : FVec Ideal S8x128 .f32) : FVec Ideal S3x491520 .f32 := fun i =>
  net (fun k : Fin 8 => X (ix2 k (i 1))) (fun k j => W1 (ix2 k j)) (fun k j => W2 (ix2 k j)) (fun k j => W3 (ix2 k j)) (fun k j => W4 (ix2 k j))
    (fun j => B (ix2 0 j)) (fun j => B (ix2 1 j)) (fun j => B (ix2 2 j)) (i 0)

/-- What one grid point of the second call leaves in its block. -/
theorem pay1 (x0 : Vec Ideal S8x15360 .bf16) (x1 : Vec Ideal S8x128 .bf16) (x2 x3 : Vec Ideal S128x128 .bf16) (x4 : Vec Ideal S128x3 .bf16)
    (x5 : Vec Ideal S8x128 .f32) (k : Fin 3) (a : Fin 15360) :
    out1_6 x0 x1 x2 x3 x4 x5 (ix2 k a)
      = net (fun k : Fin 8 => x0 (ix2 k a)) (fun k j => x1 (ix2 k j)) (fun k j => x2 (ix2 k j)) (fun k j => x3 (ix2 k j)) (fun k j => x4 (ix2 k j))
    (fun j => x5 (ix2 0 j)) (fun j => x5 (ix2 1 j)) (fun j => x5 (ix2 2 j)) k := by
  frame_out
  pointwise [k1_pay1]
  rfl

/-- A block's column lies in the array. -/
theorem lt491520 (t : Fin cfg1.N) (a : Fin 15360) : t.val * 15360 + a.val < 491520 := by
  have h : t.val < 32 := t.isLt
  omega

/-- Where an entry of the result's block lies in its array. -/
theorem emb1_6 (t : Fin cfg1.N) (k : Fin 3) (a : Fin 15360) :
    (win1_6.blk t).view.emb (ix2 k a) = ix2 k ⟨t.val * 15360 + a.val, lt491520 t a⟩ := by blk_ext [idx1 t]

/-- Where an entry of operand 0's block lies in its array. -/
theorem emb1_0 (t : Fin cfg1.N) (k : Fin 8) (a : Fin 15360) :
    (win1_0.blk t).view.emb (ix2 k a) = ix2 k ⟨t.val * 15360 + a.val, lt491520 t a⟩ := by blk_ext [idx1 t]

/-- An entry of operand 0's block, read from its array. -/
theorem blk1_0 (c : Dev nD) (t : Fin cfg1.N) (k : Fin 8) (a : Fin 15360) :
    iblk1 V c 0 t (ix2 k a) = V c main_v40 (ix2 k ⟨t.val * 15360 + a.val, lt491520 t a⟩) := by
  blk_simp [iblk1]; exact congrArg _ (emb1_0 t k a)

/-- Where an entry of operand 1's block lies in its array. -/
theorem emb1_1 (t : Fin cfg1.N) (k : Fin 8) (a : Fin 128) :
    (win1_1.blk t).view.emb (ix2 k a) = ix2 k a := by blk_ext [idx1 t]

/-- An entry of operand 1's block, read from its array. -/
theorem blk1_1 (c : Dev nD) (t : Fin cfg1.N) (k : Fin 8) (a : Fin 128) :
    iblk1 V c 1 t (ix2 k a) = V c main_v33 (ix2 k a) := by
  blk_simp [iblk1]; exact congrArg _ (emb1_1 t k a)

/-- Where an entry of operand 2's block lies in its array. -/
theorem emb1_2 (t : Fin cfg1.N) (k : Fin 128) (a : Fin 128) :
    (win1_2.blk t).view.emb (ix2 k a) = ix2 k a := by blk_ext [idx1 t]

/-- An entry of operand 2's block, read from its array. -/
theorem blk1_2 (c : Dev nD) (t : Fin cfg1.N) (k : Fin 128) (a : Fin 128) :
    iblk1 V c 2 t (ix2 k a) = V c main_v41 (ix2 k a) := by
  blk_simp [iblk1]; exact congrArg _ (emb1_2 t k a)

/-- Where an entry of operand 3's block lies in its array. -/
theorem emb1_3 (t : Fin cfg1.N) (k : Fin 128) (a : Fin 128) :
    (win1_3.blk t).view.emb (ix2 k a) = ix2 k a := by blk_ext [idx1 t]

/-- An entry of operand 3's block, read from its array. -/
theorem blk1_3 (c : Dev nD) (t : Fin cfg1.N) (k : Fin 128) (a : Fin 128) :
    iblk1 V c 3 t (ix2 k a) = V c main_v42 (ix2 k a) := by
  blk_simp [iblk1]; exact congrArg _ (emb1_3 t k a)

/-- Where an entry of operand 4's block lies in its array. -/
theorem emb1_4 (t : Fin cfg1.N) (k : Fin 128) (a : Fin 3) :
    (win1_4.blk t).view.emb (ix2 k a) = ix2 k a := by blk_ext [idx1 t]

/-- An entry of operand 4's block, read from its array. -/
theorem blk1_4 (c : Dev nD) (t : Fin cfg1.N) (k : Fin 128) (a : Fin 3) :
    iblk1 V c 4 t (ix2 k a) = V c main_v43 (ix2 k a) := by
  blk_simp [iblk1]; exact congrArg _ (emb1_4 t k a)

/-- Where an entry of operand 5's block lies in its array. -/
theorem emb1_5 (t : Fin cfg1.N) (k : Fin 8) (a : Fin 128) :
    (win1_5.blk t).view.emb (ix2 k a) = ix2 k a := by blk_ext [idx1 t]

/-- An entry of operand 5's block, read from its array. -/
theorem blk1_5 (c : Dev nD) (t : Fin cfg1.N) (k : Fin 8) (a : Fin 128) :
    iblk1 V c 5 t (ix2 k a) = V c main_v39 (ix2 k a) := by
  blk_simp [iblk1]; exact congrArg _ (emb1_5 t k a)

/-- The second call's result array. -/
theorem final1 (c : Dev nD) : (dat1 V c).arrAt 6 cfg1.N
    = G1 (V c main_v40) (V c main_v33) (V c main_v41) (V c main_v42) (V c main_v43) (V c main_v39) := by
  refine (dat1 V c).arrAt_eq_of_covers 6 _ (by decide +kernel) fun t hf y => ?_
  blk_simp
  rw [after1_6]
  idx_vars y
  refine (pay1 (iblk1 V c 0 t) (iblk1 V c 1 t) (iblk1 V c 2 t) (iblk1 V c 3 t) (iblk1 V c 4 t) (iblk1 V c 5 t) y0 y1).trans
    (Eq.trans ?_ (congrArg _ (emb1_6 t y0 y1)).symm)
  simp only [blk1_0, blk1_1, blk1_2, blk1_3, blk1_4, blk1_5, G1, ix2]

end Cert.KValue

end
-- ==== Proof.Region2.lean ====
/- The third call's result array: each edge's vector from its spherical coordinates. -/
module

public import proofs.«01_k».proof.Proof.Gen.KernelIdeal.Frame
public import Idealize.ShloMosaic.Lib.Pipeline.ValueKit
public import Idealize.ShloMosaic.Lib.Pointwise
public import proofs.«01_k».proof.Proof.Net

@[expose] public section

set_option maxRecDepth 16384

noncomputable section

namespace Cert.KValue

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Which block each window shows at a grid point. -/
theorem idx2 : ∀ t : Fin cfg2.N, win2_0.index t = ![0, t.val, 0] ∧ win2_1.index t = ![0, 0] ∧ win2_2.index t = ![0, t.val, 0] :=
  (by decide +kernel : ∀ t : Fin grid2.N, _)

/-- The third call's result as one array of its two operands. -/
def G2 (X : FVec Ideal S3x3840x128 .f32) (B : FVec Ideal S8x1 .f32) : FVec Ideal S3x3840x128 .bf16 := fun i =>
  cart (X (ix3 0 (i 1) (i 2)) + B (ix2 0 0)) (X (ix3 1 (i 1) (i 2)) + B (ix2 1 0)) (X (ix3 2 (i 1) (i 2)) + B (ix2 2 0)) (i 0)

/-- What one grid point of the third call leaves in its block. -/
theorem pay2 (x0 : Vec Ideal S3x240x128 .f32) (x1 : Vec Ideal S8x1 .f32) (k : Fin 3) (a : Fin 240) (b : Fin 128) :
    out2_2 x0 x1 (ix3 k a b) = cart (x0 (ix3 0 a b) + x1 (ix2 0 0)) (x0 (ix3 1 a b) + x1 (ix2 1 0)) (x0 (ix3 2 a b) + x1 (ix2 2 0)) k := by
  frame_out
  pointwise [k2_pay1]
  rcases k with ⟨k, hk⟩
  interval_cases k
  all_goals first | rfl | simp [cart]

/-- A block's row lies in the array. -/
theorem lt3840' (t : Fin cfg2.N) (a : Fin 240) : t.val * 240 + a.val < 3840 := by
  have h : t.val < 16 := t.isLt
  omega

/-- Where an entry of the result's block lies in its array. -/
theorem emb2_2 (t : Fin cfg2.N) (k : Fin 3) (a : Fin 240) (b : Fin 128) :
    (win2_2.blk t).view.emb (ix3 k a b) = ix3 k ⟨t.val * 240 + a.val, lt3840' t a⟩ b := by blk_ext [idx2 t]

/-- Where an entry of operand 0's block lies in its array. -/
theorem emb2_0 (t : Fin cfg2.N) (k : Fin 3) (a : Fin 240) (b : Fin 128) :
    (win2_0.blk t).view.emb (ix3 k a b) = ix3 k ⟨t.val * 240 + a.val, lt3840' t a⟩ b := by blk_ext [idx2 t]

/-- Where an entry of operand 1's block lies in its array. -/
theorem emb2_1 (t : Fin cfg2.N) (k : Fin 8) (a : Fin 1) :
    (win2_1.blk t).view.emb (ix2 k a) = ix2 k a := by blk_ext [idx2 t]

/-- An entry of operand 0's block, read from its array. -/
theorem blk2_0 (c : Dev nD) (t : Fin cfg2.N) (k : Fin 3) (a : Fin 240) (b : Fin 128) :
    iblk2 V c 0 t (ix3 k a b) = V c main_v48 (ix3 k ⟨t.val * 240 + a.val, lt3840' t a⟩ b) := by
  blk_simp [iblk2]; exact congrArg _ (emb2_0 t k a b)

/-- An entry of operand 1's block, read from its array. -/
theorem blk2_1 (c : Dev nD) (t : Fin cfg2.N) (k : Fin 8) (a : Fin 1) :
    iblk2 V c 1 t (ix2 k a) = V c main_v47 (ix2 k a) := by
  blk_simp [iblk2]; exact congrArg _ (emb2_1 t k a)

/-- The third call's result array. -/
theorem final2 (c : Dev nD) : (dat2 V c).arrAt 2 cfg2.N = G2 (V c main_v48) (V c main_v47) := by
  refine (dat2 V c).arrAt_eq_of_covers 2 _ (by decide +kernel) fun t hf y => ?_
  blk_simp
  rw [after2_2]
  idx_vars y
  refine (pay2 (iblk2 V c 0 t) (iblk2 V c 1 t) y0 y1 y2).trans (Eq.trans ?_ (congrArg _ (emb2_2 t y0 y1 y2)).symm)
  simp only [blk2_0, blk2_1, G2, ix3]

end Cert.KValue

end
-- ==== Proof.Region3.lean ====
/- The last call's result array: the weighted sums over edges. -/
module

public import proofs.«01_k».proof.Proof.Gen.KernelIdeal.Frame
public import Idealize.ShloMosaic.Lib.Pipeline.ValueKit
public import Idealize.ShloMosaic.Lib.Pointwise
public import proofs.«01_k».proof.Proof.Net

@[expose] public section

set_option maxRecDepth 16384

noncomputable section

namespace Cert.KValue

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Which block each window shows at a grid point. -/
theorem idx3 : ∀ t : Fin cfg3.N, win3_0.index t = ![0, t.val, 0] ∧ win3_1.index t = ![0, 0] ∧ win3_2.index t = ![0, 0] ∧ win3_3.index t = ![0, t.val, 0] :=
  (by decide +kernel : ∀ t : Fin grid3.N, _)

/-- The last call's result as one array of its three operands. -/
def G3 (X : FVec Ideal S3x4096x120 .bf16) (M : FVec Ideal S120x16 .bf16) (P : FVec Ideal S1x16 .f32) : FVec Ideal S3x4096x16 .f32 := fun i =>
  (∑ e : Fin 120, (X (ix3 (i 0) (i 1) e) : EReal) * M (ix2 e (i 2))) * P (ix2 0 (i 2))

/-- What one grid point of the last call leaves in its block. -/
theorem pay3 (x0 : Vec Ideal S3x1024x120 .bf16) (x1 : Vec Ideal S120x16 .bf16) (x2 : Vec Ideal S1x16 .f32) (k : Fin 3) (a : Fin 1024) (b : Fin 16) :
    out3_3 x0 x1 x2 (ix3 k a b) = (∑ e : Fin 120, (x0 (ix3 k a e) : EReal) * x1 (ix2 e b)) * x2 (ix2 0 b) := by
  frame_out
  pointwise [k3_pay1]

/-- A block's step lies in the array. -/
theorem lt4096 (t : Fin cfg3.N) (a : Fin 1024) : t.val * 1024 + a.val < 4096 := by
  have h : t.val < 4 := t.isLt
  omega

/-- Where an entry of the result's block lies in its array. -/
theorem emb3_3 (t : Fin cfg3.N) (k : Fin 3) (a : Fin 1024) (b : Fin 16) :
    (win3_3.blk t).view.emb (ix3 k a b) = ix3 k ⟨t.val * 1024 + a.val, lt4096 t a⟩ b := by blk_ext [idx3 t]

/-- Where an entry of operand 0's block lies in its array. -/
theorem emb3_0 (t : Fin cfg3.N) (k : Fin 3) (a : Fin 1024) (b : Fin 120) :
    (win3_0.blk t).view.emb (ix3 k a b) = ix3 k ⟨t.val * 1024 + a.val, lt4096 t a⟩ b := by blk_ext [idx3 t]

/-- Where an entry of operand 1's block lies in its array. -/
theorem emb3_1 (t : Fin cfg3.N) (k : Fin 120) (a : Fin 16) :
    (win3_1.blk t).view.emb (ix2 k a) = ix2 k a := by blk_ext [idx3 t]

/-- Where an entry of operand 2's block lies in its array. -/
theorem emb3_2 (t : Fin cfg3.N) (k : Fin 1) (a : Fin 16) :
    (win3_2.blk t).view.emb (ix2 k a) = ix2 k a := by blk_ext [idx3 t]

/-- An entry of operand 0's block, read from its array. -/
theorem blk3_0 (c : Dev nD) (t : Fin cfg3.N) (k : Fin 3) (a : Fin 1024) (b : Fin 120) :
    iblk3 V c 0 t (ix3 k a b) = V c main_v58 (ix3 k ⟨t.val * 1024 + a.val, lt4096 t a⟩ b) := by
  blk_simp [iblk3]; exact congrArg _ (emb3_0 t k a b)

/-- An entry of operand 1's block, read from its array. -/
theorem blk3_1 (c : Dev nD) (t : Fin cfg3.N) (k : Fin 120) (a : Fin 16) :
    iblk3 V c 1 t (ix2 k a) = V c main_v53 (ix2 k a) := by
  blk_simp [iblk3]; exact congrArg _ (emb3_1 t k a)

/-- An entry of operand 2's block, read from its array. -/
theorem blk3_2 (c : Dev nD) (t : Fin cfg3.N) (k : Fin 1) (a : Fin 16) :
    iblk3 V c 2 t (ix2 k a) = V c main_v57 (ix2 k a) := by
  blk_simp [iblk3]; exact congrArg _ (emb3_2 t k a)

/-- The last call's result array. -/
theorem final3 (c : Dev nD) : (dat3 V c).arrAt 3 cfg3.N = G3 (V c main_v58) (V c main_v53) (V c main_v57) := by
  refine (dat3 V c).arrAt_eq_of_covers 3 _ (by decide +kernel) fun t hf y => ?_
  blk_simp
  rw [after3_3]
  idx_vars y
  refine (pay3 (iblk3 V c 0 t) (iblk3 V c 1 t) (iblk3 V c 2 t) y0 y1 y2).trans (Eq.trans ?_ (congrArg _ (emb3_3 t y0 y1 y2)).symm)
  simp only [blk3_0, blk3_1, blk3_2, G3, ix3, ix2]

end Cert.KValue

end
-- ==== Proof.Host.lean ====
/- The host operations between the calls, read at an index. -/
module

public import proofs.«01_k».proof.Proof.Gen.KernelIdeal.Frame
public import Idealize.ShloMosaic.Lib.Pointwise
public import proofs.«01_k».proof.Proof.Net
public import Idealize.ShloMosaic.Lib.Routing.OpsSet
public import Idealize.ShloMosaic.Lib.WordCmp

@[expose] public section

set_option maxRecDepth 16384

noncomputable section

namespace Cert.KValue

open Idealize.ShloMosaic Idealize.ShloMosaic.TcCoe Idealize.SL.Sem
open Cert.KernelIdeal Cert.KernelIdeal.Gen

variable (W : Valuation τ sig (Elt Ideal))

/-- The quotient coordinate of edge `e` in rows of 128. -/
def eq128 (e : Fin 491520) : Fin 3840 := ⟨e.val / 128, by have := e.isLt; omega⟩
/-- The remainder coordinate of edge `e` in rows of 128. -/
def em128 (e : Fin 491520) : Fin 128 := ⟨e.val % 128, by omega⟩
/-- Edge `j` of time step `t`. -/
def ed (t : Fin 4096) (j : Fin 120) : Fin 491520 := ⟨t.val * 120 + j.val, by have := t.isLt; have := j.isLt; omega⟩
/-- The pair of an edge. -/
def em120 (e : Fin 491520) : Fin 120 := ⟨e.val % 120, by omega⟩
/-- The row of the block of pairs where edge `e` finds its logarithms. -/
def em240 (e : Fin 491520) : Fin 240 := ⟨(eq128 e).val % 240, Nat.mod_lt _ (by norm_num)⟩

/-- A row of 128 and a place in it give back the edge's number. -/
theorem eq_em (e : Fin 491520) (h) : (⟨(eq128 e).val * 128 + (em128 e).val, h⟩ : Fin 491520) = e :=
  Fin.ext (by show e.val / 128 * 128 + e.val % 128 = e.val; omega)

/-- The place of an edge in a tile of 240 rows tells which of the 120 pairs it joins. -/
theorem em_pair (e : Fin 491520) (h) : (⟨((em240 e).val * 128 + (em128 e).val) % 120, h⟩ : Fin 120) = em120 e :=
  Fin.ext (by show (e.val / 128 % 240 * 128 + e.val % 128) % 120 = e.val % 120; omega)

/-- The last host segment turns the slab per coordinate into a row per planet and time. -/
theorem h4_v62 (i : Fin 64000) (k : Fin 3) : StableHlo.after hostOps4 W (Proc.devRef .tc main_v62) (ix2 i k)
    = (W (Proc.devRef .tc main_v59) : FVec Ideal S3x4096x16 .f32) (ix3 k ⟨i.val / 16, by have := i.isLt; omega⟩ ⟨i.val % 16, by omega⟩) := by
  after_results
  pointwise

/-- The edges' vectors, laid out by time step and pair. -/
theorem h3_v58 (k : Fin 3) (t : Fin 4096) (j : Fin 120) : StableHlo.after hostOps3_2 W (Proc.devRef .tc main_v58) (ix3 k t j)
    = (W (Proc.devRef .tc main_v49) : FVec Ideal S3x3840x128 .bf16) (ix3 k (eq128 (ed t j)) (em128 (ed t j))) := by
  after_results
  pointwise
  have ht := t.isLt
  have hj := j.isLt
  have hk := k.isLt
  refine congrArg _ (congrArg₂ (ix3 k) (Fin.ext ?_) (Fin.ext ?_))
  · show (k.val * 491520 + t.val * 120 + j.val) / 128 % 3840 = (t.val * 120 + j.val) / 128
    omega
  · show (k.val * 491520 + t.val * 120 + j.val) % 128 = (t.val * 120 + j.val) % 128
    omega

/-- The network's outputs, laid out in rows of 128. -/
theorem h2_v48 (k : Fin 3) (e : Fin 491520) : StableHlo.after hostOps2 W (Proc.devRef .tc main_v48) (ix3 k (eq128 e) (em128 e))
    = (W (Proc.devRef .tc main_v44) : FVec Ideal S3x491520 .f32) (ix2 k e) := by
  after_results
  pointwise
  exact congrArg _ (congrArg (ix2 k) (eq_em e _))

/-- The features, laid out with one column per edge. -/
theorem h1_v40 (k : Fin 8) (e : Fin 491520) : StableHlo.after hostOps1 W (Proc.devRef .tc main_v40) (ix2 k e)
    = (W (Proc.devRef .tc main_v30) : FVec Ideal S8x3840x128 .bf16) (ix3 k (eq128 e) (em128 e)) := by
  after_results
  pointwise
  simp only [eq128, em128]

/-- The edges' coordinates, laid out in rows of 128. -/
theorem h0_v4 (k : Fin 3) (e : Fin 491520) : StableHlo.after hostOps0_2 W (Proc.devRef .tc main_v4) (ix3 k (eq128 e) (em128 e))
    = (W (Proc.devRef .tc main_v1) : FVec Ideal S491520x3 .f32) (ix2 e k) := by
  after_results
  pointwise
  exact congrArg _ (congrArg (fun e => ix2 e k) (eq_em e _))

/-- The positions, filled with zeros past the last edge. -/
theorem h0_v1 (k : Fin 3) (e : Fin 491520) : StableHlo.after hostOps0 W (Proc.devRef .tc main_v1) (ix2 e k)
    = if h : e.val < 480000 then (W (Proc.devRef .tc main_arg0) : FVec Ideal S480000x3 .f32) (ix2 ⟨e.val, h⟩ k) else (0 : EReal) := by
  after_results
  pointwise

end Cert.KValue

end
-- ==== Proof.HostB.lean ====
/- The small operands of the calls, read at an index. -/
module

public import proofs.«01_k».proof.Proof.Gen.KernelIdeal.Frame
public import Idealize.ShloMosaic.Lib.Pointwise
public import proofs.«01_k».proof.Proof.Net
public import proofs.«01_k».proof.Proof.Host
public import Idealize.ShloMosaic.Lib.Routing.OpsSet
public import Idealize.ShloMosaic.Lib.WordCmp

@[expose] public section

set_option maxRecDepth 16384

noncomputable section

namespace Cert.KValue

open Idealize.ShloMosaic Idealize.ShloMosaic.TcCoe Idealize.SL.Sem
open Cert.KernelIdeal Cert.KernelIdeal.Gen

variable (W : Valuation τ sig (Elt Ideal))

/-- The masses are held between -12 and 12. -/
theorem h0_v2 (A : FVec Ideal S16 .f32) (hA : W (Proc.devRef .tc main_arg3) = A)
    (h0 : (W (Proc.devRef .tc main_cst_0) : FVec Ideal S_ .f32) ix0 = Ideal.ofBits .f32 3242196992#32)
    (h1 : (W (Proc.devRef .tc main_cst_1) : FVec Ideal S_ .f32) ix0 = Ideal.ofBits .f32 1094713344#32) (p : Fin 16) :
    StableHlo.after hostOps0_1 W (Proc.devRef .tc main_v2) (ix1 p) = clip (A (ix1 p)) := by
  subst hA
  after_results
  simp only [StableHlo.TRef.toBuf, StableHlo.TRef.ofBuf, cast_eq]
  pointwise
  exact congrArg₂ (fun u v : EReal => min u (max v (W (Proc.devRef .tc main_arg3) (ix1 p)))) h1 h0

/-- The lower bound of the masses. -/
theorem h0_c0 (W : Valuation τ sig (Elt Ideal)) (p) : (StableHlo.after hostOps0 W (Proc.devRef .tc main_cst_0) : FVec Ideal S_ .f32) p = Ideal.ofBits .f32 0xC1400000#32 := by
  after_results
  pointwise

/-- The upper bound of the masses. -/
theorem h0_c1 (W : Valuation τ sig (Elt Ideal)) (p) : (StableHlo.after hostOps0 W (Proc.devRef .tc main_cst_1) : FVec Ideal S_ .f32) p = Ideal.ofBits .f32 0x41400000#32 := by
  after_results
  pointwise

/-- The first weights have three rows of zeros added. -/
theorem h1_v33 (k : Fin 8) (j : Fin 128) : StableHlo.after hostOps1 W (Proc.devRef .tc main_v33) (ix2 k j)
    = if h : k.val < 5 then (W (Proc.devRef .tc main_arg4) : FVec Ideal S5x128 .f32) (ix2 ⟨k.val, h⟩ j) else (0 : EReal) := by
  after_results
  pointwise

/-- The second weights are passed on as they are. -/
theorem h1_v41 (k j : Fin 128) : StableHlo.after hostOps1 W (Proc.devRef .tc main_v41) (ix2 k j)
    = (W (Proc.devRef .tc main_arg6) : FVec Ideal S128x128 .f32) (ix2 k j) := by
  after_results
  pointwise

/-- The third weights are passed on as they are. -/
theorem h1_v42 (k j : Fin 128) : StableHlo.after hostOps1 W (Proc.devRef .tc main_v42) (ix2 k j)
    = (W (Proc.devRef .tc main_arg8) : FVec Ideal S128x128 .f32) (ix2 k j) := by
  after_results
  pointwise

/-- The last weights are passed on as they are. -/
theorem h1_v43 (k : Fin 128) (j : Fin 3) : StableHlo.after hostOps1 W (Proc.devRef .tc main_v43) (ix2 k j)
    = (W (Proc.devRef .tc main_arg10) : FVec Ideal S128x3 .f32) (ix2 k j) := by
  after_results
  pointwise

/-- The first of the last biases. -/
theorem h2_v47_0 : StableHlo.after hostOps2 W (Proc.devRef .tc main_v47) (ix2 (0 : Fin 8) (0 : Fin 1))
    = (W (Proc.devRef .tc main_arg11) : FVec Ideal S3 .f32) (ix1 0) := by
  after_results
  pointwise
/-- The second of the last biases. -/
theorem h2_v47_1 : StableHlo.after hostOps2 W (Proc.devRef .tc main_v47) (ix2 (1 : Fin 8) (0 : Fin 1))
    = (W (Proc.devRef .tc main_arg11) : FVec Ideal S3 .f32) (ix1 1) := by
  after_results
  pointwise
/-- The third of the last biases. -/
theorem h2_v47_2 : StableHlo.after hostOps2 W (Proc.devRef .tc main_v47) (ix2 (2 : Fin 8) (0 : Fin 1))
    = (W (Proc.devRef .tc main_arg11) : FVec Ideal S3 .f32) (ix1 2) := by
  after_results
  pointwise

/-- Comparing two numbers below sixteen gives one where they are equal and zero elsewhere. -/
theorem onehot (q n : Fin 16) : FloatOps.uitofp (F := Ideal) .f32 (IntOp.cmpi CmpIPredicate.eq (BitVec.ofNat 32 q.val) (BitVec.ofNat 32 n.val))
    = if q = n then (1 : EReal) else 0 := by
  have h : ∀ q n : Fin 16, IntOp.cmpi CmpIPredicate.eq (BitVec.ofNat 32 q.val) (BitVec.ofNat 32 n.val) = if q = n then 1#1 else 0#1 := by decide +kernel
  rw [h q n]
  split
  · show (((1#1 : BitVec 1).toNat : ℝ) : EReal) = 1
    simp
  · show (((0#1 : BitVec 1).toNat : ℝ) : EReal) = 0
    simp

/-- The table that marks each pair's receiver. -/
theorem h3_v50 (x : IVec S120 32) (hx : W (Proc.devRef .tc main_arg2) = x) (r : Fin 120 → Fin 16) (hr : ∀ j, x (ix1 j) = BitVec.ofNat 32 (r j).val)
    (j : Fin 120) (n : Fin 16) : StableHlo.after hostOps3 W (Proc.devRef .tc main_v50) (ix2 j n)
    = if r j = n then (1 : EReal) else 0 := by
  subst hx
  after_results
  simp only [StableHlo.TRef.toBuf, StableHlo.TRef.ofBuf, cast_eq]
  pointwise
  exact (congrArg (fun w => FloatOps.uitofp (F := Ideal) .f32 (IntOp.cmpi CmpIPredicate.eq w (BitVec.ofNat 32 n.val))) (hr j)).trans (onehot (r j) n)

/-- The table that marks each pair's sender. -/
theorem h3_v51 (x : IVec S120 32) (hx : W (Proc.devRef .tc main_arg1) = x) (r : Fin 120 → Fin 16) (hr : ∀ j, x (ix1 j) = BitVec.ofNat 32 (r j).val)
    (j : Fin 120) (n : Fin 16) : StableHlo.after hostOps3_1 W (Proc.devRef .tc main_v51) (ix2 j n)
    = if r j = n then (1 : EReal) else 0 := by
  subst hx
  after_results
  simp only [StableHlo.TRef.toBuf, StableHlo.TRef.ofBuf, cast_eq]
  pointwise
  exact (congrArg (fun w => FloatOps.uitofp (F := Ideal) .f32 (IntOp.cmpi CmpIPredicate.eq w (BitVec.ofNat 32 n.val))) (hr j)).trans (onehot (r j) n)

/-- The table of signs: the receivers' marks less the senders'. -/
theorem h3_v53 (A B : FVec Ideal S120x16 .f32) (hA : W (Proc.devRef .tc main_v50) = A) (hB : W (Proc.devRef .tc main_v51) = B) (j : Fin 120) (n : Fin 16) : StableHlo.after hostOps3_2 W (Proc.devRef .tc main_v53) (ix2 j n)
    = A (ix2 j n) - B (ix2 j n) := by
  after_results
  pointwise
  subst hA
  first | (subst hB; rfl) | rfl

/-- Ten to the negated mass of a planet. -/
theorem h3_v57 (A : FVec Ideal S16 .f32) (hA : W (Proc.devRef .tc main_v2) = A) (n : Fin 16) : StableHlo.after hostOps3_2 W (Proc.devRef .tc main_v57) (ix2 0 n)
    = Ideal.pow (Ideal.ofBits .f32 0x41200000#32) (- A (ix1 n)) := by
  after_results
  pointwise
  subst hA
  first | (subst hB; rfl) | rfl

/-- The rows of biases: three vectors, the rest zero. -/
theorem h1_v39_term (a b d : FVec Ideal S128 .f32) (ha : W (Proc.devRef .tc main_arg5) = a) (hb : W (Proc.devRef .tc main_arg7) = b)
    (hd : W (Proc.devRef .tc main_arg9) = d) : StableHlo.after hostOps1 W (Proc.devRef .tc main_v39)
    = concatenate S8x128 0 [⟨S3x128, concatenate S3x128 0 [⟨S1x128, broadcastInDim S1x128 ![1] bcast_S128_S1x128_1 a⟩,
        ⟨S1x128, broadcastInDim S1x128 ![1] bcast_S128_S1x128_1 b⟩, ⟨S1x128, broadcastInDim S1x128 ![1] bcast_S128_S1x128_1 d⟩] concatenates_S1x128_S1x128_S1x128_S3x128_d0⟩,
        ⟨S5x128, broadcastInDim S5x128 ![] bcast_S_S5x128 (constant (F := Ideal) S_ FTy.f32 0#32)⟩] concatenates_S3x128_S5x128_S8x128_d0 := by
  subst ha hb hd
  after_results
  rfl

/-- The first row of biases is the first layer's. -/
theorem h1_v39_0 (a b d : FVec Ideal S128 .f32) (ha : W (Proc.devRef .tc main_arg5) = a) (hb : W (Proc.devRef .tc main_arg7) = b)
    (hd : W (Proc.devRef .tc main_arg9) = d) (j : Fin 128) : StableHlo.after hostOps1 W (Proc.devRef .tc main_v39) (ix2 0 j) = a (ix1 j) := by
  rw [h1_v39_term W a b d ha hb hd]
  pointwise

/-- The second row of biases is the second layer's. -/
theorem h1_v39_1 (a b d : FVec Ideal S128 .f32) (ha : W (Proc.devRef .tc main_arg5) = a) (hb : W (Proc.devRef .tc main_arg7) = b)
    (hd : W (Proc.devRef .tc main_arg9) = d) (j : Fin 128) : StableHlo.after hostOps1 W (Proc.devRef .tc main_v39) (ix2 1 j) = b (ix1 j) := by
  rw [h1_v39_term W a b d ha hb hd]
  pointwise

/-- The third row of biases is the third layer's. -/
theorem h1_v39_2 (a b d : FVec Ideal S128 .f32) (ha : W (Proc.devRef .tc main_arg5) = a) (hb : W (Proc.devRef .tc main_arg7) = b)
    (hd : W (Proc.devRef .tc main_arg9) = d) (j : Fin 128) : StableHlo.after hostOps1 W (Proc.devRef .tc main_v39) (ix2 2 j) = d (ix1 j) := by
  rw [h1_v39_term W a b d ha hb hd]
  pointwise

end Cert.KValue

end
-- ==== Proof.HostG.lean ====
/- The logarithms of masses gathered per pair of nodes. -/
module

public import proofs.«01_k».proof.Proof.Gen.KernelIdeal.Frame
public import Idealize.ShloMosaic.Lib.Pointwise
public import proofs.«01_k».proof.Proof.Net
public import proofs.«01_k».proof.Proof.Host
public import Idealize.ShloMosaic.Lib.Routing.OpsSet
public import Idealize.ShloMosaic.Lib.WordCmp

@[expose] public section

set_option maxRecDepth 16384

noncomputable section

namespace Cert.KValue

open Idealize.ShloMosaic Idealize.ShloMosaic.TcCoe Idealize.SL.Sem
open Cert.KernelIdeal Cert.KernelIdeal.Gen

variable (W : Valuation τ sig (Elt Ideal))

/-- A word below sixteen is not negative, so it is not moved up. -/
theorem norm16 : ∀ q : Fin 16, Scalar.select (IntOp.cmpi .slt (BitVec.ofNat 32 q.val) 0#32) (IntOp.addi (BitVec.ofNat 32 q.val) 16#32) (BitVec.ofNat 32 q.val)
    = BitVec.ofNat 32 q.val := by decide +kernel

/-- The index word at a pair, moved up by 16 where it is negative, is the word itself for a number in range. -/
theorem norm_word (x : IVec S120 32) (r : Fin 120 → Fin 16) (hr : ∀ j, x (ix1 j) = BitVec.ofNat 32 (r j).val) (j : Fin 120) :
    (broadcastInDim S120x1 ![0] bcast_S120_S120x1_0
          (select (cmpi CmpIPredicate.slt x (broadcastInDim S120 ![] bcast_S_S120 (constantI S_ 32 0#32)))
            (addi x (broadcastInDim S120 ![] bcast_S_S120 (constantI S_ 32 16#32))) x)) (ix2 j 0) = BitVec.ofNat 32 (r j).val := by
  pointwise
  rw [hr j]
  exact norm16 (r j)

/-- The tile of masses: one slab for the receivers, one for the senders. -/
theorem h0_v29 (r s : Fin 120 → Fin 16) (hr : ∀ j, (W (Proc.devRef .tc main_arg2) : IVec S120 32) (ix1 j) = BitVec.ofNat 32 (r j).val)
    (hs : ∀ j, (W (Proc.devRef .tc main_arg1) : IVec S120 32) (ix1 j) = BitVec.ofNat 32 (s j).val) (e : Fin 491520) (k : Fin 2) :
    StableHlo.after hostOps0_2 W (Proc.devRef .tc main_v29) (ix3 k (em240 e) (em128 e))
    = if k.val < 1 then (W (Proc.devRef .tc main_v2) : FVec Ideal S16 .f32) (ix1 (r (em120 e)))
      else (W (Proc.devRef .tc main_v2) : FVec Ideal S16 .f32) (ix1 (s (em120 e))) := by
  after_results
  pointwise
  split
  · refine Eq.trans (congrArg _ (congrArg ix1 (em_pair e _))) ?_
    exact Routing.gather_take1 gather_S16_S120x1_S120_n_0_n_n_0_1_1 rfl rfl rfl rfl (W (Proc.devRef .tc main_v2) : FVec Ideal S16 .f32) _ _ (r (em120 e)) (norm_word _ r hr _) (by norm_num)
  · refine Eq.trans (congrArg _ (congrArg ix1 (em_pair e _))) ?_
    exact Routing.gather_take1 gather_S16_S120x1_S120_n_0_n_n_0_1_1 rfl rfl rfl rfl (W (Proc.devRef .tc main_v2) : FVec Ideal S16 .f32) _ _ (s (em120 e)) (norm_word _ s hs _) (by norm_num)

end Cert.KValue

end
-- ==== Proof.KValue.lean ====
/- The kernel's result at an index, from the calls and the host operations between them. -/
module

public import proofs.«01_k».proof.Proof.Region0
public import proofs.«01_k».proof.Proof.Region1
public import proofs.«01_k».proof.Proof.Region2
public import proofs.«01_k».proof.Proof.Region3
public import proofs.«01_k».proof.Proof.HostB
public import proofs.«01_k».proof.Proof.HostG

@[expose] public section

set_option maxRecDepth 16384

noncomputable section

namespace Cert.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The positions. -/
abbrev A0 : FVec Ideal S480000x3 .f32 := m ((c : Thread nD τ).loc main_arg0)
/-- The senders. -/
abbrev A1 : IVec S120 32 := m ((c : Thread nD τ).loc main_arg1)
/-- The receivers. -/
abbrev A2 : IVec S120 32 := m ((c : Thread nD τ).loc main_arg2)
/-- The masses. -/
abbrev A3 : FVec Ideal S16 .f32 := m ((c : Thread nD τ).loc main_arg3)
/-- The first layer's weights. -/
abbrev A4 : FVec Ideal S5x128 .f32 := m ((c : Thread nD τ).loc main_arg4)
/-- The first layer's biases. -/
abbrev A5 : FVec Ideal S128 .f32 := m ((c : Thread nD τ).loc main_arg5)
/-- The second layer's weights. -/
abbrev A6 : FVec Ideal S128x128 .f32 := m ((c : Thread nD τ).loc main_arg6)
/-- The second layer's biases. -/
abbrev A7 : FVec Ideal S128 .f32 := m ((c : Thread nD τ).loc main_arg7)
/-- The third layer's weights. -/
abbrev A8 : FVec Ideal S128x128 .f32 := m ((c : Thread nD τ).loc main_arg8)
/-- The third layer's biases. -/
abbrev A9 : FVec Ideal S128 .f32 := m ((c : Thread nD τ).loc main_arg9)
/-- The last layer's weights. -/
abbrev A10 : FVec Ideal S128x3 .f32 := m ((c : Thread nD τ).loc main_arg10)
/-- The last layer's biases. -/
abbrev A11 : FVec Ideal S3 .f32 := m ((c : Thread nD τ).loc main_arg11)

/-- The clipped logarithm of the mass of node `p`. -/
def lm (p : Fin 16) : EReal := clip (A3 m c (ix1 p))

/-- Coordinate `k` of the vector of edge `e`, zero past the edges there are. -/
def pd (k : Fin 3) (e : Fin 491520) : EReal := if h : e.val < 480000 then A0 m c (ix2 ⟨e.val, h⟩ k) else (0 : EReal)

variable (r s : Fin 120 → Fin 16)

/-- The features of edge `e`. -/
def fx (e : Fin 491520) (k : Fin 8) : EReal :=
  feat (pd m c 0 e) (pd m c 1 e) (pd m c 2 e) (lm m c (r (em120 e))) (lm m c (s (em120 e))) k

/-- The network's output at edge `e`. -/
def nx (e : Fin 491520) (k : Fin 3) : EReal :=
  net (fx m c r s e) (fun k j => if h : k.val < 5 then A4 m c (ix2 ⟨k.val, h⟩ j) else (0 : EReal)) (fun k j => A6 m c (ix2 k j)) (fun k j => A8 m c (ix2 k j))
    (fun k j => A10 m c (ix2 k j)) (fun j => A5 m c (ix1 j)) (fun j => A7 m c (ix1 j)) (fun j => A9 m c (ix1 j)) k

/-- The vector the kernel makes of edge `e`. -/
def cx (e : Fin 491520) (k : Fin 3) : EReal :=
  cart (nx m c r s e 0 + A11 m c (ix1 0)) (nx m c r s e 1 + A11 m c (ix1 1)) (nx m c r s e 2 + A11 m c (ix1 2)) k

/-- Before the first call the masses are the bounded ones. -/
theorem s2_lm (p : Fin 16) : W2 m ρ c (Proc.devRef .tc main_v2) (ix1 p) = lm m c p :=
  h0_v2 (W1 m ρ c) (A3 m c) (W1_args m ρ c main_arg3 (by decide)) (h0_c0 (W0 m ρ c) ix0) (h0_c1 (W0 m ρ c) ix0) p

/-- Before the first call the positions are the padded ones. -/
theorem s2_v1 (e : Fin 491520) (k : Fin 3) : W2 m ρ c (Proc.devRef .tc main_v1) (ix2 e k) = pd m c k e :=
  (congrFun (W2_of m ρ c main_v1 (by decide)) _).trans (h0_v1 (W0 m ρ c) k e)

variable (hr : ∀ j, A2 m c (ix1 j) = BitVec.ofNat 32 (r j).val) (hs : ∀ j, A1 m c (ix1 j) = BitVec.ofNat 32 (s j).val)
include hr hs

/-- After the first call: the features. -/
theorem s4 (e : Fin 491520) (k : Fin 8) : W4 m ρ c (Proc.devRef .tc main_v30) (ix3 k (eq128 e) (em128 e)) = fx m c r s e k := by
  have h := congrFun ((W4_arr m ρ c 2).trans (final0 (V3 m ρ) c)) (ix3 k (eq128 e) (em128 e))
  refine Eq.trans h ?_
  have p := fun q : Fin 3 => (h0_v4 (W2 m ρ c) q e).trans (s2_v1 m ρ c e q)
  have l := fun q : Fin 2 => h0_v29 (W2 m ρ c) r s (fun j => (congrFun (W2_args m ρ c main_arg2 (by decide)) _).trans (hr j))
    (fun j => (congrFun (W2_args m ρ c main_arg1 (by decide)) _).trans (hs j)) e q
  have l0 := (l 0).trans (s2_lm m ρ c (r (em120 e)))
  have l1 := (l 1).trans (s2_lm m ρ c (s (em120 e)))
  show feat _ _ _ _ _ k = feat _ _ _ _ _ k
  exact congr (congr (congr (congr (congr (congrArg feat (p 0)) (p 1)) (p 2)) l0) l1) rfl

/-- Before the second call: the features, one column per edge. -/
theorem s5 (e : Fin 491520) (k : Fin 8) : W5 m ρ c (Proc.devRef .tc main_v40) (ix2 k e) = fx m c r s e k :=
  (h1_v40 (W4 m ρ c) k e).trans (s4 m ρ c r s hr hs e k)

/-- After the second call: the network's outputs. -/
theorem s6 (e : Fin 491520) (k : Fin 3) : W6 m ρ c (Proc.devRef .tc main_v44) (ix2 k e) = nx m c r s e k := by
  have h := congrFun ((W6_arr m ρ c 6).trans (final1 (V5 m ρ) c)) (ix2 k e)
  refine Eq.trans h ?_
  have e0 := funext fun q : Fin 8 => s5 m ρ c r s hr hs e q
  have a4 := W4_args m ρ c main_arg4 (by decide)
  have a5 := W4_args m ρ c main_arg5 (by decide)
  have a7 := W4_args m ρ c main_arg7 (by decide)
  have a9 := W4_args m ρ c main_arg9 (by decide)
  have e1 : (fun (q : Fin 8) (j : Fin 128) => (W5 m ρ c (Proc.devRef .tc main_v33) (ix2 q j) : EReal))
      = fun q j => if h : q.val < 5 then A4 m c (ix2 ⟨q.val, h⟩ j) else (0 : EReal) := by
    funext q j
    refine (h1_v33 (W4 m ρ c) q j).trans ?_
    rw [a4]
  have e2 := funext fun q : Fin 128 => funext fun j : Fin 128 => (h1_v41 (W4 m ρ c) q j).trans (congrFun (W4_args m ρ c main_arg6 (by decide)) _)
  have e3 := funext fun q : Fin 128 => funext fun j : Fin 128 => (h1_v42 (W4 m ρ c) q j).trans (congrFun (W4_args m ρ c main_arg8 (by decide)) _)
  have e4 := funext fun q : Fin 128 => funext fun j : Fin 3 => (h1_v43 (W4 m ρ c) q j).trans (congrFun (W4_args m ρ c main_arg10 (by decide)) _)
  have b0 := funext fun j : Fin 128 => h1_v39_0 (W4 m ρ c) _ _ _ a5 a7 a9 j
  have b1 := funext fun j : Fin 128 => h1_v39_1 (W4 m ρ c) _ _ _ a5 a7 a9 j
  have b2 := funext fun j : Fin 128 => h1_v39_2 (W4 m ρ c) _ _ _ a5 a7 a9 j
  exact congrFun (congr (congr (congr (congr (congr (congr (congr (congrArg net e0) e1) e2) e3) e4) b0) b1) b2) k

/-- After the third call: the vectors. -/
theorem s8 (e : Fin 491520) (k : Fin 3) : W8 m ρ c (Proc.devRef .tc main_v49) (ix3 k (eq128 e) (em128 e)) = cx m c r s e k := by
  have h := congrFun ((W8_arr m ρ c 2).trans (final2 (V7 m ρ) c)) (ix3 k (eq128 e) (em128 e))
  refine Eq.trans h ?_
  have p := fun q : Fin 3 => (h2_v48 (W6 m ρ c) q e).trans (s6 m ρ c r s hr hs e q)
  have a := W6_args m ρ c main_arg11 (by decide)
  have b0 := (h2_v47_0 (W6 m ρ c)).trans (congrFun a _)
  have b1 := (h2_v47_1 (W6 m ρ c)).trans (congrFun a _)
  have b2 := (h2_v47_2 (W6 m ρ c)).trans (congrFun a _)
  show cart _ _ _ k = cart _ _ _ k
  exact congrFun (congr (congr (congrArg cart (congrArg₂ (fun u v : EReal => u + v) (p 0) b0)) (congrArg₂ (fun u v : EReal => u + v) (p 1) b1))
    (congrArg₂ (fun u v : EReal => u + v) (p 2) b2)) k

/-- The kernel's result at node `i`, coordinate `k`. -/
theorem s13 (i : Fin 64000) (k : Fin 3) (t : Fin 4096) (n : Fin 16) (ht : t.val = i.val / 16) (hn : n.val = i.val % 16) :
    W13 m ρ c (Proc.devRef .tc main_v62) (ix2 i k)
      = (∑ j : Fin 120, cx m c r s (ed t j) k * ((if r j = n then (1 : EReal) else 0) - (if s j = n then (1 : EReal) else 0)))
        * Ideal.pow (Ideal.ofBits .f32 1092616192#32) (-lm m c n) := by
  refine (h4_v62 (W12 m ρ c) i k).trans ?_
  have et : (⟨i.val / 16, by have := i.isLt; omega⟩ : Fin 4096) = t := Fin.ext ht.symm
  have en : (⟨i.val % 16, by omega⟩ : Fin 16) = n := Fin.ext hn.symm
  rw [et, en]
  have h := congrFun ((W12_arr m ρ c 3).trans (final3 (V11 m ρ) c)) (ix3 k t n)
  refine Eq.trans h ?_
  have e50 : W10 m ρ c (Proc.devRef .tc main_v50) = W9 m ρ c (Proc.devRef .tc main_v50) := W10_of m ρ c main_v50 (by decide)
  have e2 : W10 m ρ c (Proc.devRef .tc main_v2) = W2 m ρ c (Proc.devRef .tc main_v2) :=
    ((W10_of m ρ c main_v2 (by decide)).trans <| (W9_of m ρ c main_v2 (by decide)).trans <| (W8_of m ρ c main_v2 (by decide)).trans <|
      (W7_of m ρ c main_v2 (by decide)).trans <| (W6_of m ρ c main_v2 (by decide)).trans <| (W5_of m ρ c main_v2 (by decide)).trans <|
      (W4_of m ρ c main_v2 (by decide)).trans <| (W3_of m ρ c main_v2 (by decide)))
  have e49 : W10 m ρ c (Proc.devRef .tc main_v49) = W8 m ρ c (Proc.devRef .tc main_v49) :=
    (W10_of m ρ c main_v49 (by decide)).trans (W9_of m ρ c main_v49 (by decide))
  have f := fun j : Fin 120 => (h3_v58 (W10 m ρ c) k t j).trans ((congrFun e49 _).trans (s8 m ρ c r s hr hs (ed t j) k))
  have u := fun j : Fin 120 => h3_v50 (W8 m ρ c) (A2 m c) (W8_args m ρ c main_arg2 (by decide)) r hr j n
  have v := fun j : Fin 120 => h3_v51 (W9 m ρ c) (A1 m c) (W9_args m ρ c main_arg1 (by decide)) s hs j n
  have g := fun j : Fin 120 => (h3_v53 (W10 m ρ c) _ _ e50 rfl j n).trans (congrArg₂ (fun u v : EReal => u - v) (u j) (v j))
  have w := (h3_v57 (W10 m ρ c) _ e2 n).trans (congrArg (fun x : EReal => Ideal.pow (Ideal.ofBits .f32 1092616192#32) (-x)) (s2_lm m ρ c n))
  exact congrArg₂ (fun x y : EReal => x * y) (Finset.sum_congr rfl fun j _ => congrArg₂ (fun x y : EReal => x * y) (f j) (g j)) w

end Cert.KValue

end
-- ==== Proof.RValue.lean ====
/- The reference's result at an index: its index words, its features, its network. -/
module

public import proofs.«01_k».proof.Proof.Gen.ReferenceIdeal.Read
public import proofs.«01_k».proof.Proof.Net
public import Idealize.ShloMosaic.Lib.Pointwise
public import Idealize.ShloMosaic.Lib.Routing.Ops
public import Idealize.ShloMosaic.Lib.Routing.OpsPair
public import Idealize.ShloMosaic.Lib.WordCmp

@[expose] public section

set_option maxRecDepth 16384

noncomputable section

namespace Cert.RValue

open Idealize.ShloMosaic Idealize.ShloMosaic.TcCoe Idealize.SL.Sem
open Cert.ReferenceIdeal Cert.ReferenceIdeal.Gen Cert.ReferenceIdeal.Read
open Cert.KValue (clip cart dense)

/-- Edge `j` of time step `t`, among the edges there are. -/
def ec (e : Fin 480000) : Fin 120 := ⟨e.val % 120, by omega⟩

/-- The number of the node at which edge `e` has the end `r` names. -/
def nd (r : Fin 120 → Fin 16) (e : Fin 480000) : Fin 64000 :=
  ⟨(r (ec e)).val + e.val / 120 * 16, by have := (r (ec e)).isLt; have := e.isLt; omega⟩

/-- The mass of a node is its planet's, bounded. -/
theorem v4_at (x3 : FVec Ideal S16 .f32) (i : Fin 64000) :
    val_main_v4 (F := Ideal) x3 (ix2 i 0) = clip (x3 (ix1 (⟨i.val % 16, by omega⟩ : Fin 16))) := by
  pointwise [val_main_v4, val_main_v3, val_main_v2, val_main_v1, val_main_v0, val_main_call0_v4, val_main_call0_v3, val_main_call0_v2, val_main_call0_v1,
    val_main_call0_v0, val_main_cst, val_main_cst_0]
  rfl

/-- A sender's node word: the planet's plus sixteen times the step. -/
theorem v13_term (x1 : IVec S120 32) (e : Fin 480000) :
    val_main_v13 (F := Ideal) x1 (ix1 e) = x1 (ix1 (ec e)) + BitVec.ofNat 32 (e.val / 120) * 16#32 := by
  pointwise [val_main_v13, val_main_v12, val_main_v11, val_main_v10, val_main_v9, val_main_v8, val_main_v7, val_main_v6, val_main_v5, val_main_c]
  rfl

/-- A receiver's node word: the planet's plus sixteen times the step. -/
theorem v17_term (x1 : IVec S120 32) (e : Fin 480000) :
    val_main_v17 (F := Ideal) x1 (ix1 e) = x1 (ix1 (ec e)) + BitVec.ofNat 32 (e.val / 120) * 16#32 := by
  pointwise [val_main_v17, val_main_v16, val_main_v15, val_main_v14, val_main_v9, val_main_v8, val_main_v7, val_main_v6, val_main_v5, val_main_c]
  rfl

/-- The word of a node's number. -/
theorem word_nd (r : Fin 120 → Fin 16) (e : Fin 480000) :
    BitVec.ofNat 32 (r (ec e)).val + BitVec.ofNat 32 (e.val / 120) * 16#32 = BitVec.ofNat 32 (nd r e).val := by
  rw [show (16#32 : BitVec 32) = BitVec.ofNat 32 16 from rfl, ← BitVec.ofNat_mul, ← BitVec.ofNat_add]
  rfl

variable (x1 x2 : IVec S120 32) (r s : Fin 120 → Fin 16) (hr : ∀ j, x2 (ix1 j) = BitVec.ofNat 32 (r j).val) (hs : ∀ j, x1 (ix1 j) = BitVec.ofNat 32 (s j).val)

include hs in
/-- A sender's node word names its node. -/
theorem v13_at (e : Fin 480000) : val_main_v13 (F := Ideal) x1 (ix1 e) = BitVec.ofNat 32 (nd s e).val := by
  rw [v13_term, hs, word_nd]

include hr in
/-- A receiver's node word names its node. -/
theorem v17_at (e : Fin 480000) : val_main_v17 (F := Ideal) x2 (ix1 e) = BitVec.ofNat 32 (nd r e).val := by
  rw [v17_term, hr, word_nd]

/-- A node's word is not negative, so it is not moved. -/
theorem wrap_nd (r : Fin 120 → Fin 16) (e : Fin 480000) (a : BitVec 32) :
    Scalar.select (IntOp.cmpi .slt (BitVec.ofNat 32 (nd r e).val) 0#32) a (BitVec.ofNat 32 (nd r e).val) = BitVec.ofNat 32 (nd r e).val :=
  Routing.wrap_of_lt _ _ (by
    rw [BitVec.toNat_ofNat]
    have := (nd r e).isLt
    have h2 : (nd r e).val % 2 ^ 32 ≤ (nd r e).val := Nat.mod_le _ _
    have h3 : (64000 : ℕ) < 2 ^ (32 - 1) := by norm_num
    omega)

include hr in
/-- The receiver's row to read. -/
theorem v37_at (e : Fin 480000) : val_main_v37 (F := Ideal) x2 (ix2 e 0) = BitVec.ofNat 32 (nd r e).val := by
  have h : val_main_v37 (F := Ideal) x2 (ix2 e 0) = Scalar.select (IntOp.cmpi .slt (val_main_v17 (F := Ideal) x2 (ix1 e)) 0#32)
      (IntOp.addi (val_main_v17 (F := Ideal) x2 (ix1 e)) 64000#32) (val_main_v17 (F := Ideal) x2 (ix1 e)) := by
    pointwise [val_main_v37, val_main_v36, val_main_v35, val_main_v34, val_main_v33, val_main_v32, val_main_c_5, val_main_c_6]
  rw [h, v17_at x2 r hr]
  exact wrap_nd r e _

include hs in
/-- The sender's row to read. -/
theorem v44_at (e : Fin 480000) : val_main_v44 (F := Ideal) x1 (ix2 e 0) = BitVec.ofNat 32 (nd s e).val := by
  have h : val_main_v44 (F := Ideal) x1 (ix2 e 0) = Scalar.select (IntOp.cmpi .slt (val_main_v13 (F := Ideal) x1 (ix1 e)) 0#32)
      (IntOp.addi (val_main_v13 (F := Ideal) x1 (ix1 e)) 64000#32) (val_main_v13 (F := Ideal) x1 (ix1 e)) := by
    pointwise [val_main_v44, val_main_v43, val_main_v42, val_main_v41, val_main_v40, val_main_v39, val_main_c_7, val_main_c_8]
  rw [h, v13_at x1 s hs]
  exact wrap_nd s e _

/-- A node's remainder by 16 is the node's name within its time step. -/
theorem nd_mod (r : Fin 120 → Fin 16) (e : Fin 480000) : (⟨(nd r e).val % 16, by omega⟩ : Fin 16) = r (ec e) :=
  Fin.ext (by have := (r (ec e)).isLt; show ((r (ec e)).val + e.val / 120 * 16) % 16 = _; omega)

include hr in
/-- The receiver's mass. -/
theorem v38_at (x3 : FVec Ideal S16 .f32) (e : Fin 480000) : val_main_v38 (F := Ideal) x2 x3 (ix2 e 0) = clip (x3 (ix1 (r (ec e)))) := by
  refine (Routing.gather_row gather_S64000x1_S480000x1_S480000x1_1_0_n_n_0_1_11 rfl rfl rfl rfl rfl _ _ e 0 (nd r e) (v37_at x2 r hr e) (by norm_num)).trans ?_
  exact (v4_at x3 (nd r e)).trans (congrArg (fun q => clip (x3 (ix1 q))) (nd_mod r e))

include hs in
/-- The sender's mass. -/
theorem v45_at (x3 : FVec Ideal S16 .f32) (e : Fin 480000) : val_main_v45 (F := Ideal) x1 x3 (ix2 e 0) = clip (x3 (ix1 (s (ec e)))) := by
  refine (Routing.gather_row gather_S64000x1_S480000x1_S480000x1_1_0_n_n_0_1_11 rfl rfl rfl rfl rfl _ _ e 0 (nd s e) (v44_at x1 s hs e) (by norm_num)).trans ?_
  exact (v4_at x3 (nd s e)).trans (congrArg (fun q => clip (x3 (ix1 q))) (nd_mod s e))

/-- The length of an edge as the reference takes it. -/
def rrad (x y z : EReal) : EReal := Ideal.sqrt (Cert.KValue.rr x y z)

/-- The polar angle as the reference takes it. -/
def rpol (x y z : EReal) : EReal :=
  Ideal.acos (min (Ideal.ofBits .f32 0x3F800000#32) (max (Ideal.ofBits .f32 0xBF800000#32) (Ideal.div z (rrad x y z))))

variable (x0 : FVec Ideal S480000x3 .f32)

/-- The squared length of an edge. -/
theorem v19_at (e : Fin 480000) : val_main_v19 (F := Ideal) x0 (ix1 e)
    = x0 (ix2 e 0) * x0 (ix2 e 0) + x0 (ix2 e 1) * x0 (ix2 e 1) + x0 (ix2 e 2) * x0 (ix2 e 2) := by
  rw [val_main_v19_apply, val_main_cst_1_apply, Fin.sum_univ_three]
  have h : ∀ k : Fin 3, idx_main_v19 (ix1 e) k = ix2 e k := fun k => funext fun a => match a with | ⟨0, _⟩ => rfl | ⟨1, _⟩ => rfl
  simp only [val_main_v18_apply, h]
  rw [Ideal.ofBits_def, Ideal.ofBits_zero_f32, zero_add]
  rfl

/-- The length of an edge. -/
theorem v23_at (e : Fin 480000) : val_main_v23 (F := Ideal) x0 (ix2 e 0) = rrad (x0 (ix2 e 0)) (x0 (ix2 e 1)) (x0 (ix2 e 2)) := by
  have h : idx_main_v20 (ix2 e 0) = ix1 e := funext fun a => match a with | ⟨0, _⟩ => rfl
  rw [val_main_v23_apply, val_main_v22_apply, val_main_v20_apply, h, v19_at, val_main_v21_apply, val_main_cst_2_apply]
  rfl

/-- The third coordinate over the length. -/
theorem v25_at (e : Fin 480000) : val_main_v25 (F := Ideal) x0 (ix2 e 0) = Ideal.div (x0 (ix2 e 2)) (rrad (x0 (ix2 e 0)) (x0 (ix2 e 1)) (x0 (ix2 e 2))) := by
  have h : idx_main_v24 (ix2 e 0) = ix2 e 2 := funext fun a => match a with | ⟨0, _⟩ => rfl | ⟨1, _⟩ => rfl
  rw [val_main_v25_apply, val_main_v24_apply, h, v23_at]
  rfl

/-- The polar angle of an edge. -/
theorem v27_at (e : Fin 480000) : val_main_v27 (F := Ideal) x0 (ix2 e 0) = rpol (x0 (ix2 e 0)) (x0 (ix2 e 1)) (x0 (ix2 e 2)) := by
  rw [val_main_v27_apply, val_main_v26_apply, val_main_call1_v4_apply, val_main_call1_v3_apply, val_main_cst_4_apply, val_main_call1_v2_apply,
    val_main_call1_v1_apply, val_main_call1_v0_apply, val_main_cst_3_apply, v25_at]
  rfl

/-- The azimuth of an edge. -/
theorem v30_at (e : Fin 480000) : val_main_v30 (F := Ideal) x0 (ix2 e 0) = Ideal.atan2 (x0 (ix2 e 1)) (x0 (ix2 e 0)) := by
  pointwise [val_main_v30, val_main_v29, val_main_v28]

/-- The five features of an edge as the reference takes them. -/
def rfeat (x y z l0 l1 : EReal) (k : Fin 5) : EReal :=
  if k.val < 1 then rrad x y z
  else if k.val < 2 then rpol x y z
  else if k.val < 3 then Ideal.atan2 y x
  else if k.val < 4 then l0
  else l1

end Cert.RValue

end
-- ==== Proof.RNet.lean ====
/- The reference's network and the vectors of its edges, at an index. -/
module

public import proofs.«01_k».proof.Proof.RValue

@[expose] public section

set_option maxRecDepth 16384

noncomputable section

namespace Cert.RValue

open Idealize.ShloMosaic Idealize.ShloMosaic.TcCoe Idealize.SL.Sem
open Cert.ReferenceIdeal Cert.ReferenceIdeal.Gen Cert.ReferenceIdeal.Read
open Cert.KValue (clip cart dense)

variable (x1 x2 : IVec S120 32) (r s : Fin 120 → Fin 16) (hr : ∀ j, x2 (ix1 j) = BitVec.ofNat 32 (r j).val) (hs : ∀ j, x1 (ix1 j) = BitVec.ofNat 32 (s j).val)
variable (x0 : FVec Ideal S480000x3 .f32) (x3 : FVec Ideal S16 .f32)

/-- The spherical coordinates of an edge, joined. -/
theorem v31_term (e : Fin 480000) (k : Fin 3) : val_main_v31 (F := Ideal) x0 (ix2 e k)
    = if k.val < 1 then val_main_v23 (F := Ideal) x0 (ix2 e 0) else if k.val < 2 then val_main_v27 (F := Ideal) x0 (ix2 e 0) else val_main_v30 (F := Ideal) x0 (ix2 e 0) := by
  unfold val_main_v31
  generalize val_main_v23 (F := Ideal) x0 = a
  generalize val_main_v27 (F := Ideal) x0 = b
  generalize val_main_v30 (F := Ideal) x0 = d
  pointwise
  fin_cases k <;> rfl

/-- The features of an edge, joined. -/
theorem v46_term (e : Fin 480000) (k : Fin 5) : val_main_v46 (F := Ideal) x0 x1 x2 x3 (ix2 e k)
    = if h : k.val < 3 then val_main_v31 (F := Ideal) x0 (ix2 e ⟨k.val, h⟩) else if k.val < 4 then val_main_v38 (F := Ideal) x2 x3 (ix2 e 0) else val_main_v45 (F := Ideal) x1 x3 (ix2 e 0) := by
  unfold val_main_v46
  generalize val_main_v31 (F := Ideal) x0 = a
  generalize val_main_v38 (F := Ideal) x2 x3 = b
  generalize val_main_v45 (F := Ideal) x1 x3 = d
  pointwise
  fin_cases k <;> rfl

include hr hs in
/-- The features of an edge. -/
theorem v46_at (e : Fin 480000) (k : Fin 5) :
    val_main_v46 (F := Ideal) x0 x1 x2 x3 (ix2 e k)
      = rfeat (x0 (ix2 e 0)) (x0 (ix2 e 1)) (x0 (ix2 e 2)) (clip (x3 (ix1 (r (ec e))))) (clip (x3 (ix1 (s (ec e))))) k := by
  rw [v46_term, v38_at x2 r hr, v45_at x1 s hs]
  have hk := k.isLt
  unfold rfeat
  by_cases h : k.val < 3
  · rw [dif_pos h, v31_term, v23_at, v27_at, v30_at]
    by_cases h1 : k.val < 1
    · simp only [h1, if_true]
    · by_cases h2 : k.val < 2
      · simp only [h1, h2, if_true, if_false]
      · simp only [h1, h2, h, if_true, if_false]
  · have h1 : ¬ k.val < 1 := by omega
    have h2 : ¬ k.val < 2 := by omega
    simp only [h, h1, h2, if_false, dite_false]

variable (x4 : FVec Ideal S5x128 .f32) (x5 : FVec Ideal S128 .f32) (x6 : FVec Ideal S128x128 .f32) (x7 : FVec Ideal S128 .f32)
  (x8 : FVec Ideal S128x128 .f32) (x9 : FVec Ideal S128 .f32) (x10 : FVec Ideal S128x3 .f32) (x11 : FVec Ideal S3 .f32)

/-- The first layer. -/
theorem v51_at (e : Fin 480000) (j : Fin 128) : val_main_v51 (F := Ideal) x0 x1 x2 x3 x4 x5 (ix2 e j)
    = dense (fun k : Fin 5 => val_main_v46 (F := Ideal) x0 x1 x2 x3 (ix2 e k)) (fun k j => x4 (ix2 k j)) (fun j => x5 (ix1 j)) j := by
  have h : ∀ k : Fin 5, lidx_main_v47 (ix2 e j) k = ix2 e k := fun k => funext fun a => match a with | ⟨0, _⟩ => rfl | ⟨1, _⟩ => rfl
  have h' : ∀ k : Fin 5, ridx_main_v47 (ix2 e j) k = ix2 k j := fun k => funext fun a => match a with | ⟨0, _⟩ => rfl | ⟨1, _⟩ => rfl
  have hb : idx_main_v49 (ix2 e j) = ix2 0 j := funext fun a => match a with | ⟨0, _⟩ => rfl | ⟨1, _⟩ => rfl
  have hb' : idx_main_v48 (ix2 0 j) = ix1 j := funext fun a => match a with | ⟨0, _⟩ => rfl
  rw [val_main_v51_apply, val_main_v50_apply, val_main_v47_apply, val_main_v49_apply, hb, val_main_v48_apply, hb']
  generalize val_main_v46 (F := Ideal) x0 x1 x2 x3 = y
  exact congrArg Ideal.tanh (congrArg (fun u : EReal => u + x5 (ix1 j)) (Finset.sum_congr rfl fun k _ =>
    congrArg₂ (fun u v : EReal => u * v) (congrArg y (h k)) (congrArg x4 (h' k))))

/-- The second layer. -/
theorem v56_at (e : Fin 480000) (j : Fin 128) : val_main_v56 (F := Ideal) x0 x1 x2 x3 x4 x5 x6 x7 (ix2 e j)
    = dense (fun k : Fin 128 => val_main_v51 (F := Ideal) x0 x1 x2 x3 x4 x5 (ix2 e k)) (fun k j => x6 (ix2 k j)) (fun j => x7 (ix1 j)) j := by
  have h : ∀ k : Fin 128, lidx_main_v52 (ix2 e j) k = ix2 e k := fun k => funext fun a => match a with | ⟨0, _⟩ => rfl | ⟨1, _⟩ => rfl
  have h' : ∀ k : Fin 128, ridx_main_v52 (ix2 e j) k = ix2 k j := fun k => funext fun a => match a with | ⟨0, _⟩ => rfl | ⟨1, _⟩ => rfl
  have hb : idx_main_v54 (ix2 e j) = ix2 0 j := funext fun a => match a with | ⟨0, _⟩ => rfl | ⟨1, _⟩ => rfl
  have hb' : idx_main_v53 (ix2 0 j) = ix1 j := funext fun a => match a with | ⟨0, _⟩ => rfl
  rw [val_main_v56_apply, val_main_v55_apply, val_main_v52_apply, val_main_v54_apply, hb, val_main_v53_apply, hb']
  generalize val_main_v51 (F := Ideal) x0 x1 x2 x3 x4 x5 = y
  exact congrArg Ideal.tanh (congrArg (fun u : EReal => u + x7 (ix1 j)) (Finset.sum_congr rfl fun k _ =>
    congrArg₂ (fun u v : EReal => u * v) (congrArg y (h k)) (congrArg x6 (h' k))))

/-- The third layer. -/
theorem v61_at (e : Fin 480000) (j : Fin 128) : val_main_v61 (F := Ideal) x0 x1 x2 x3 x4 x5 x6 x7 x8 x9 (ix2 e j)
    = dense (fun k : Fin 128 => val_main_v56 (F := Ideal) x0 x1 x2 x3 x4 x5 x6 x7 (ix2 e k)) (fun k j => x8 (ix2 k j)) (fun j => x9 (ix1 j)) j := by
  have h : ∀ k : Fin 128, lidx_main_v57 (ix2 e j) k = ix2 e k := fun k => funext fun a => match a with | ⟨0, _⟩ => rfl | ⟨1, _⟩ => rfl
  have h' : ∀ k : Fin 128, ridx_main_v57 (ix2 e j) k = ix2 k j := fun k => funext fun a => match a with | ⟨0, _⟩ => rfl | ⟨1, _⟩ => rfl
  have hb : idx_main_v59 (ix2 e j) = ix2 0 j := funext fun a => match a with | ⟨0, _⟩ => rfl | ⟨1, _⟩ => rfl
  have hb' : idx_main_v58 (ix2 0 j) = ix1 j := funext fun a => match a with | ⟨0, _⟩ => rfl
  rw [val_main_v61_apply, val_main_v60_apply, val_main_v57_apply, val_main_v59_apply, hb, val_main_v58_apply, hb']
  generalize val_main_v56 (F := Ideal) x0 x1 x2 x3 x4 x5 x6 x7 = y
  exact congrArg Ideal.tanh (congrArg (fun u : EReal => u + x9 (ix1 j)) (Finset.sum_congr rfl fun k _ =>
    congrArg₂ (fun u v : EReal => u * v) (congrArg y (h k)) (congrArg x8 (h' k))))

/-- The last layer, which has no tanh. -/
theorem v65_at (e : Fin 480000) (j : Fin 3) : val_main_v65 (F := Ideal) x0 x1 x2 x3 x4 x5 x6 x7 x8 x9 x10 x11 (ix2 e j)
    = (∑ k : Fin 128, val_main_v61 (F := Ideal) x0 x1 x2 x3 x4 x5 x6 x7 x8 x9 (ix2 e k) * x10 (ix2 k j) : EReal) + x11 (ix1 j) := by
  have h : ∀ k : Fin 128, lidx_main_v62 (ix2 e j) k = ix2 e k := fun k => funext fun a => match a with | ⟨0, _⟩ => rfl | ⟨1, _⟩ => rfl
  have h' : ∀ k : Fin 128, ridx_main_v62 (ix2 e j) k = ix2 k j := fun k => funext fun a => match a with | ⟨0, _⟩ => rfl | ⟨1, _⟩ => rfl
  have hb : idx_main_v64 (ix2 e j) = ix2 0 j := funext fun a => match a with | ⟨0, _⟩ => rfl | ⟨1, _⟩ => rfl
  have hb' : idx_main_v63 (ix2 0 j) = ix1 j := funext fun a => match a with | ⟨0, _⟩ => rfl
  rw [val_main_v65_apply, val_main_v62_apply, val_main_v64_apply, hb, val_main_v63_apply, hb']
  generalize val_main_v61 (F := Ideal) x0 x1 x2 x3 x4 x5 x6 x7 x8 x9 = y
  exact congrArg (fun u : EReal => u + x11 (ix1 j)) (Finset.sum_congr rfl fun k _ =>
    congrArg₂ (fun u v : EReal => u * v) (congrArg y (h k)) (congrArg x10 (h' k)))

/-- The reference's spherical output at edge `e`, from the features. -/
def rnet (f : Fin 5 → EReal) (k : Fin 3) : EReal :=
  (∑ j : Fin 128, dense (dense (dense f (fun k j => x4 (ix2 k j)) (fun j => x5 (ix1 j))) (fun k j => x6 (ix2 k j)) (fun j => x7 (ix1 j)))
    (fun k j => x8 (ix2 k j)) (fun j => x9 (ix1 j)) j * x10 (ix2 j k)) + x11 (ix1 k)

/-- The features of edge `e`. -/
def rfx (e : Fin 480000) (k : Fin 5) : EReal :=
  rfeat (x0 (ix2 e 0)) (x0 (ix2 e 1)) (x0 (ix2 e 2)) (clip (x3 (ix1 (r (ec e))))) (clip (x3 (ix1 (s (ec e))))) k

/-- The vector the reference makes of edge `e`. -/
def rvec (e : Fin 480000) (k : Fin 3) : EReal :=
  cart (rnet x4 x5 x6 x7 x8 x9 x10 x11 (rfx r s x0 x3 e) 0) (rnet x4 x5 x6 x7 x8 x9 x10 x11 (rfx r s x0 x3 e) 1)
    (rnet x4 x5 x6 x7 x8 x9 x10 x11 (rfx r s x0 x3 e) 2) k

include hr hs in
/-- The network's outputs for an edge. -/
theorem v65_net (e : Fin 480000) (j : Fin 3) : val_main_v65 (F := Ideal) x0 x1 x2 x3 x4 x5 x6 x7 x8 x9 x10 x11 (ix2 e j)
    = rnet x4 x5 x6 x7 x8 x9 x10 x11 (rfx r s x0 x3 e) j := by
  rw [v65_at]
  simp only [v61_at, v56_at, v51_at, v46_at x1 x2 r s hr hs x0 x3]
  rfl

/-- The vector of an edge from the network's outputs. -/
theorem v79_term (e : Fin 480000) (k : Fin 3) : val_main_v79 (F := Ideal) x0 x1 x2 x3 x4 x5 x6 x7 x8 x9 x10 x11 (ix2 e k)
    = cart (val_main_v65 (F := Ideal) x0 x1 x2 x3 x4 x5 x6 x7 x8 x9 x10 x11 (ix2 e 0)) (val_main_v65 (F := Ideal) x0 x1 x2 x3 x4 x5 x6 x7 x8 x9 x10 x11 (ix2 e 1))
      (val_main_v65 (F := Ideal) x0 x1 x2 x3 x4 x5 x6 x7 x8 x9 x10 x11 (ix2 e 2)) k := by
  unfold val_main_v79 val_main_v72 val_main_v76 val_main_v78 val_main_v70 val_main_v71 val_main_v74 val_main_v75 val_main_v77 val_main_v73 val_main_v69
    val_main_v66 val_main_v67 val_main_v68
  generalize val_main_v65 (F := Ideal) x0 x1 x2 x3 x4 x5 x6 x7 x8 x9 x10 x11 = a
  pointwise
  fin_cases k <;> rfl

include hr hs in
/-- The vector of an edge. -/
theorem v79_at (e : Fin 480000) (k : Fin 3) : val_main_v79 (F := Ideal) x0 x1 x2 x3 x4 x5 x6 x7 x8 x9 x10 x11 (ix2 e k)
    = rvec r s x0 x3 x4 x5 x6 x7 x8 x9 x10 x11 e k := by
  rw [v79_term]
  simp only [v65_net x1 x2 r s hr hs]
  rfl

end Cert.RValue

end
-- ==== Proof.RSum.lean ====
/- The reference's sums over the edges at a node, and its result at an index. -/
module

public import proofs.«01_k».proof.Proof.RNet

@[expose] public section

set_option maxRecDepth 16384

noncomputable section

namespace Cert.RValue

open Idealize.ShloMosaic Idealize.ShloMosaic.TcCoe Idealize.SL.Sem
open Cert.ReferenceIdeal Cert.ReferenceIdeal.Gen Cert.ReferenceIdeal.Read
open Cert.KValue (clip cart dense)

variable (x1 x2 : IVec S120 32) (r s : Fin 120 → Fin 16) (hr : ∀ j, x2 (ix1 j) = BitVec.ofNat 32 (r j).val) (hs : ∀ j, x1 (ix1 j) = BitVec.ofNat 32 (s j).val)

/-- The sum's dimension numbers. -/
abbrev dS := scatter_S64000x3_S480000x1_S480000x3_1_0_0_1

/-- An update does not move along the nodes by its own index. -/
theorem win0 (e : Fin 480000) (q : Fin 3) : dS.window (ix2 e q) 0 = 0 := by
  unfold ScatterDims.window
  exact dif_neg (by decide)

/-- An update's place along the coordinates is its own. -/
theorem win1 (e : Fin 480000) (q : Fin 3) : dS.window (ix2 e q) 1 = q.val := by
  unfold ScatterDims.window
  rw [dif_pos (by decide)]
  rfl

/-- No index moves an update along the coordinates. -/
theorem start1 (e : Fin 480000) (q : Fin 3) (idx : IVec S480000x1 32) : dS.start (ix2 e q) idx 1 = 0 := by
  unfold ScatterDims.start
  exact dif_neg (by decide)

/-- An update's node is its index word. -/
theorem start0 (e : Fin 480000) (q : Fin 3) (idx : IVec S480000x1 32) : dS.start (ix2 e q) idx 0 = (idx (ix2 e 0)).toInt := by
  unfold ScatterDims.start
  rw [dif_pos (by decide)]
  refine congrArg (fun j => (idx j).toInt) (funext fun b => Fin.ext ?_)
  match b with
  | ⟨0, _⟩ => rfl
  | ⟨1, _⟩ => rfl

/-- Where the update of edge `e`, coordinate `q`, goes. -/
theorem lands (e : Fin 480000) (q : Fin 3) (idx : IVec S480000x1 32) (v : Fin 64000) (hv : idx (ix2 e 0) = BitVec.ofNat 32 v.val) (i : Fin 64000) (k : Fin 3) :
    dS.resultIdx? (ix2 e q) idx = some (ix2 i k) ↔ v = i ∧ q = k := by
  have h1 : (BitVec.ofNat 32 v.val).toInt = (v.val : Int) := StableHlo.Predicate.toInt_ofNat_small _ (by have := v.isLt; omega)
  refine (Routing.resultIdx?_ix2 dS (ix2 e q) idx i k).trans ?_
  rw [start0, start1, win0, win1, hv, h1]
  constructor
  · intro ⟨a, b⟩
    exact ⟨Fin.ext (by omega), Fin.ext (by omega)⟩
  · rintro ⟨rfl, rfl⟩
    exact ⟨by omega, by omega⟩

/-- The sum at a node and a coordinate runs over the edges whose word names the node. -/
theorem scatter_at (x : FVec Ideal S64000x3 .f32) (idx : IVec S480000x1 32) (v : Fin 480000 → Fin 64000)
    (hv : ∀ e, idx (ix2 e 0) = BitVec.ofNat 32 (v e).val) (f : FVec Ideal S480000x3 .f32) (i : Fin 64000) (k : Fin 3) :
    Host.scatterAdd (F := Ideal) dS x idx f (ix2 i k) = x (ix2 i k) + ∑ e : Fin 480000, if v e = i then (f (ix2 e k) : EReal) else 0 := by
  show Ideal.hostScatterAdd dS x idx f (ix2 i k) = _
  unfold Ideal.hostScatterAdd
  refine congrArg (fun u : EReal => x (ix2 i k) + u) ?_
  rw [Finset.sum_filter, ValueIdx.sum_idx2]
  refine Finset.sum_congr rfl fun e _ => ?_
  have h := fun q : Fin 3 => lands e q idx (v e) (hv e) i k
  calc _ = ∑ q : Fin 3, if (v e = i ∧ q = k) then (f (ix2 e q) : EReal) else 0 := Finset.sum_congr rfl fun q _ => if_congr (h q) rfl rfl
    _ = _ := by
      by_cases hi : v e = i
      · simp only [hi, true_and, if_true, Finset.sum_ite_eq', Finset.mem_univ]
      · simp only [hi, false_and, if_false, Finset.sum_const_zero]

/-- Edge `j` of time step `t`. -/
def ee (t : Fin 4000) (j : Fin 120) : Fin 480000 := ⟨t.val * 120 + j.val, by have := t.isLt; have := j.isLt; omega⟩

/-- A sum over the edges at node `i` is a sum over the edges of its time step. -/
theorem sum_node (f : Fin 480000 → EReal) (i : Fin 64000) (t : Fin 4000) (n : Fin 16) (ht : t.val = i.val / 16) (hn : n.val = i.val % 16) :
    (∑ e : Fin 480000, if nd r e = i then f e else 0) = ∑ j : Fin 120, if r j = n then f (ee t j) else 0 := by
  refine (Fintype.sum_of_injective (ee t) (fun a b h => Fin.ext ?_) _ _ (fun e he => if_neg fun h => he ?_) fun j => ?_).symm
  · have h2 := congrArg Fin.val h
    simp only [ee] at h2
    omega
  · have h2 : (r (ec e)).val + e.val / 120 * 16 = i.val := congrArg Fin.val h
    have := (r (ec e)).isLt
    refine ⟨ec e, Fin.ext ?_⟩
    show t.val * 120 + e.val % 120 = e.val
    omega
  · have e1 : ec (ee t j) = j := Fin.ext (by have := j.isLt; show (t.val * 120 + j.val) % 120 = j.val; omega)
    refine if_congr ?_ rfl rfl
    have e2 : (nd r (ee t j)).val = (r j).val + (t.val * 120 + j.val) / 120 * 16 := by
      show (r (ec (ee t j))).val + _ = _
      rw [e1]; rfl
    have := j.isLt
    have := (r j).isLt
    have := n.isLt
    constructor
    · intro h
      have h' := congrArg Fin.val h
      exact Fin.ext (by rw [e2]; omega)
    · intro h
      have h' := congrArg Fin.val h
      rw [e2] at h'
      exact Fin.ext (by omega)

variable (x0 : FVec Ideal S480000x3 .f32) (x3 : FVec Ideal S16 .f32)
variable (x4 : FVec Ideal S5x128 .f32) (x5 : FVec Ideal S128 .f32) (x6 : FVec Ideal S128x128 .f32) (x7 : FVec Ideal S128 .f32)
  (x8 : FVec Ideal S128x128 .f32) (x9 : FVec Ideal S128 .f32) (x10 : FVec Ideal S128x3 .f32) (x11 : FVec Ideal S3 .f32)

include hr in
/-- The receivers' index words. -/
theorem v81_at (e : Fin 480000) : val_main_v81 (F := Ideal) x2 (ix2 e 0) = BitVec.ofNat 32 (nd r e).val := by
  have h : idx_main_v81 (ix2 e 0) = ix1 e := funext fun a => match a with | ⟨0, _⟩ => rfl
  rw [val_main_v81_apply, h, v17_at x2 r hr]

include hs in
/-- The senders' index words. -/
theorem v84_at (e : Fin 480000) : val_main_v84 (F := Ideal) x1 (ix2 e 0) = BitVec.ofNat 32 (nd s e).val := by
  have h : idx_main_v84 (ix2 e 0) = ix1 e := funext fun a => match a with | ⟨0, _⟩ => rfl
  rw [val_main_v84_apply, h, v13_at x1 s hs]

include hr hs in
/-- The sum of the vectors a planet receives. -/
theorem v82_at (i : Fin 64000) (k : Fin 3) (t : Fin 4000) (n : Fin 16) (ht : t.val = i.val / 16) (hn : n.val = i.val % 16) :
    val_main_v82 (F := Ideal) x0 x1 x2 x3 x4 x5 x6 x7 x8 x9 x10 x11 (ix2 i k)
      = ∑ j : Fin 120, if r j = n then rvec r s x0 x3 x4 x5 x6 x7 x8 x9 x10 x11 (ee t j) k else 0 := by
  rw [← sum_node r (fun e => rvec r s x0 x3 x4 x5 x6 x7 x8 x9 x10 x11 e k) i t n ht hn]
  unfold val_main_v82
  refine (scatter_at _ _ (nd r) (v81_at x2 r hr) _ i k).trans ?_
  rw [val_main_v80_apply, val_main_cst_9_apply, Ideal.ofBits_def, Ideal.ofBits_zero_f32, zero_add]
  simp only [v79_at x1 x2 r s hr hs]

include hr hs in
/-- The sum of the vectors a planet sends. -/
theorem v85_at (i : Fin 64000) (k : Fin 3) (t : Fin 4000) (n : Fin 16) (ht : t.val = i.val / 16) (hn : n.val = i.val % 16) :
    val_main_v85 (F := Ideal) x0 x1 x2 x3 x4 x5 x6 x7 x8 x9 x10 x11 (ix2 i k)
      = ∑ j : Fin 120, if s j = n then rvec r s x0 x3 x4 x5 x6 x7 x8 x9 x10 x11 (ee t j) k else 0 := by
  rw [← sum_node s (fun e => rvec r s x0 x3 x4 x5 x6 x7 x8 x9 x10 x11 e k) i t n ht hn]
  unfold val_main_v85
  refine (scatter_at _ _ (nd s) (v84_at x1 s hs) _ i k).trans ?_
  rw [val_main_v83_apply, val_main_cst_10_apply, Ideal.ofBits_def, Ideal.ofBits_zero_f32, zero_add]
  simp only [v79_at x1 x2 r s hr hs]

include hr hs in
/-- The reference's result at node `i`, coordinate `k`. -/
theorem v90_at (i : Fin 64000) (k : Fin 3) (t : Fin 4000) (n : Fin 16) (ht : t.val = i.val / 16) (hn : n.val = i.val % 16) :
    val_main_v90 (F := Ideal) x0 x1 x2 x3 x4 x5 x6 x7 x8 x9 x10 x11 (ix2 i k)
      = Ideal.div ((∑ j : Fin 120, if r j = n then rvec r s x0 x3 x4 x5 x6 x7 x8 x9 x10 x11 (ee t j) k else 0)
          - (∑ j : Fin 120, if s j = n then rvec r s x0 x3 x4 x5 x6 x7 x8 x9 x10 x11 (ee t j) k else 0))
        (Ideal.pow (Ideal.ofBits .f32 1092616192#32) (clip (x3 (ix1 n)))) := by
  have h : idx_main_v89 (ix2 i k) = ix2 i 0 := funext fun a => match a with | ⟨0, _⟩ => rfl | ⟨1, _⟩ => rfl
  have en : (⟨i.val % 16, by omega⟩ : Fin 16) = n := Fin.ext hn.symm
  rw [val_main_v90_apply, val_main_v86_apply, v82_at x1 x2 r s hr hs x0 x3 x4 x5 x6 x7 x8 x9 x10 x11 i k t n ht hn,
    v85_at x1 x2 r s hr hs x0 x3 x4 x5 x6 x7 x8 x9 x10 x11 i k t n ht hn, val_main_v89_apply, h, val_main_v88_apply, val_main_v87_apply, val_main_cst_11_apply,
    v4_at, en]
  rfl

end Cert.RValue

end
-- ==== Proof.MathLemmas.lean ====
/- Facts about numbers that join the kernel's formulas with the reference's. -/
module

public import proofs.«01_k».proof.Proof.Net
public import Idealize.ShloMosaic.PureOps.Ideal.Laws
public import Mathlib.Analysis.SpecialFunctions.Trigonometric.Arctan

@[expose] public section

set_option maxRecDepth 16384

noncomputable section

namespace Cert.MathLemmas

open Idealize.ShloMosaic
open Cert.KValue (eps rr th feat cart dense net clip)

/-- The guard constant is a positive real number. -/
theorem eps_real : ∃ e : ℝ, 0 < e ∧ eps = (e : EReal) := by
  refine ⟨(9223372 / 2 ^ 63 : ℝ), by norm_num, ?_⟩
  simp [eps, Ideal.ofBits, Ideal.ieee, -EReal.coe_mul]
  norm_num

/-- The constant ten. -/
theorem ten : Ideal.ofBits .f32 1092616192#32 = ((10 : ℝ) : EReal) := by
  simp [Ideal.ofBits, Ideal.ieee, -EReal.coe_mul]; norm_num

/-- The constant twelve. -/
theorem twelve : Ideal.ofBits .f32 1094713344#32 = ((12 : ℝ) : EReal) := by
  simp [Ideal.ofBits, Ideal.ieee, -EReal.coe_mul]; norm_num

/-- The constant minus twelve. -/
theorem mtwelve : Ideal.ofBits .f32 3242196992#32 = ((-12 : ℝ) : EReal) := by
  simp [Ideal.ofBits, Ideal.ieee, -EReal.coe_mul]; norm_num

/-- The constant minus one. -/
theorem mone : Ideal.ofBits .f32 0xBF800000#32 = ((-1 : ℝ) : EReal) := by
  simp [Ideal.ofBits, Ideal.ieee, -EReal.coe_mul]; norm_num

/-- The larger of two real numbers is real. -/
theorem emax (a b : ℝ) : max (a : EReal) (b : EReal) = ((max a b : ℝ) : EReal) := (EReal.coe_strictMono.monotone.map_max).symm

/-- The smaller of two real numbers is real. -/
theorem emin (a b : ℝ) : min (a : EReal) (b : EReal) = ((min a b : ℝ) : EReal) := (EReal.coe_strictMono.monotone.map_min).symm

/-- A number held between -12 and 12 is real. -/
theorem clip_real (x : EReal) : ∃ l : ℝ, clip x = (l : EReal) := by
  unfold clip
  rw [twelve, mtwelve]
  induction x using EReal.rec with
  | bot => exact ⟨-12, by rw [max_eq_left bot_le, emin]; norm_num⟩
  | coe r => exact ⟨min 12 (max (-12) r), by rw [emax, emin]⟩
  | top => exact ⟨12, by rw [max_eq_right le_top, min_eq_left le_top]⟩

/-- The angle of a point of the upper unit half circle is the arc cosine of its first coordinate. -/
theorem angle (c : ℝ) (h1 : -1 ≤ c) (h2 : c ≤ 1) : Ideal.atan2 (Real.sqrt (1 - c * c) : ℝ) (c : ℝ) = (Real.arccos c : EReal) := by
  have h0 : 0 ≤ Real.sqrt (1 - c * c) := Real.sqrt_nonneg _
  show ((if 0 < c then _ else _ : ℝ) : EReal) = _
  congr 1
  rcases lt_trichotomy c 0 with h | h | h
  · rw [if_neg (not_lt.2 h.le), if_pos h, if_pos h0]
    have e := Real.arccos_eq_arctan (x := -c) (by linarith)
    rw [Real.arccos_neg, show 1 - (-c) ^ 2 = 1 - c * c by ring, div_neg, Real.arctan_neg] at e
    linarith
  · subst h
    norm_num
  · rw [if_pos h, Real.arccos_eq_arctan h, sq]

variable (x y z : ℝ)

/-- The guarded squared length of a real vector is a positive real number. -/
theorem rr_real : ∃ q : ℝ, 0 < q ∧ z * z ≤ q ∧ rr x y z = (q : EReal) := by
  obtain ⟨e, he, h⟩ := eps_real
  refine ⟨x * x + y * y + z * z + e, by nlinarith [mul_self_nonneg x, mul_self_nonneg y, mul_self_nonneg z], by nlinarith [mul_self_nonneg x, mul_self_nonneg y], ?_⟩
  unfold rr
  rw [h]
  push_cast
  rfl

/-- The root of a nonnegative real number is the real root. -/
theorem sqrt_pos_coe (q : ℝ) (h : 0 ≤ q) : Ideal.sqrt (q : EReal) = (Real.sqrt q : EReal) := by
  rw [Ideal.sqrt_coe, if_neg (not_lt.2 h)]

/-- The inverse root of a positive real number is the inverse of the real root. -/
theorem rsqrt_pos_coe (q : ℝ) (h : 0 < q) : Ideal.rsqrt (q : EReal) = (((Real.sqrt q)⁻¹ : ℝ) : EReal) := by
  rw [Ideal.rsqrt_coe, if_neg (not_lt.2 h.le), if_neg h.ne']

/-- A square times its inverse root is its root. -/
theorem radius : rr x y z * Ideal.rsqrt (rr x y z) = Ideal.sqrt (rr x y z) := by
  obtain ⟨q, hq, -, h⟩ := rr_real x y z
  rw [h, rsqrt_pos_coe q hq, sqrt_pos_coe q hq.le, ← EReal.coe_mul]
  congr 1
  have := Real.sqrt_pos.2 hq
  rw [← div_eq_mul_inv, Real.div_sqrt]

/-- The kernel's polar angle is the reference's. -/
theorem polar : th x y z = Ideal.acos (min (Ideal.ofBits .f32 0x3F800000#32) (max (Ideal.ofBits .f32 0xBF800000#32) (Ideal.div z (Ideal.sqrt (rr x y z))))) := by
  obtain ⟨q, hq, hz, h⟩ := rr_real x y z
  have hs := Real.sqrt_pos.2 hq
  have hss := Real.mul_self_sqrt hq.le
  unfold th
  rw [h, rsqrt_pos_coe q hq, sqrt_pos_coe q hq.le, Ideal.div_coe hs.ne', Ideal.ofBits_one_f32, mone, one_div, ← EReal.coe_mul]
  set c : ℝ := z * (Real.sqrt q)⁻¹ with hc
  have hcc : c * c ≤ 1 := by
    have : c * c = z * z / q := by
      rw [hc]
      rw [show z * (Real.sqrt q)⁻¹ * (z * (Real.sqrt q)⁻¹) = z * z / (Real.sqrt q * Real.sqrt q) by field_simp, hss]
    rw [this]
    exact (div_le_one hq).2 hz
  have h1 : -1 ≤ c := by nlinarith
  have h2 : c ≤ 1 := by nlinarith
  rw [← EReal.coe_mul, show (1 : EReal) = ((1 : ℝ) : EReal) from rfl, ← EReal.coe_sub, show (0 : EReal) = ((0 : ℝ) : EReal) from rfl, emax,
    max_eq_left (by linarith : (0 : ℝ) ≤ 1 - c * c), sqrt_pos_coe _ (by linarith), angle c h1 h2, emax, max_eq_right h1, emin,
    min_eq_right h2, Ideal.acos_coe, if_pos ⟨h1, h2⟩]

/-- The hyperbolic tangent is a real number everywhere. -/
theorem tanh_real (u : EReal) : ∃ v : ℝ, Ideal.tanh u = (v : EReal) := by
  induction u using EReal.rec with
  | bot => exact ⟨-1, rfl⟩
  | coe r => exact ⟨_, rfl⟩
  | top => exact ⟨1, rfl⟩

/-- A product of real numbers summed is real. -/
theorem sum_real {ι : Type*} (S : Finset ι) (f : ι → EReal) (h : ∀ i, ∃ v : ℝ, f i = (v : EReal)) : ∃ v : ℝ, ∑ i ∈ S, f i = (v : EReal) := by
  choose g hg using h
  refine ⟨∑ i ∈ S, g i, ?_⟩
  rw [Finset.sum_congr rfl fun i _ => hg i]
  exact (map_sum (⟨⟨Real.toEReal, EReal.coe_zero⟩, EReal.coe_add⟩ : ℝ →+ EReal) g S).symm

/-- The vector with real spherical coordinates is real. -/
theorem cart_real (r t p : ℝ) (k : Fin 3) : ∃ v : ℝ, cart r t p k = (v : EReal) := by
  unfold cart
  rw [Ideal.sin_coe, Ideal.cos_coe, Ideal.sin_coe, Ideal.cos_coe]
  split
  · exact ⟨r * Real.sin t * Real.cos p, by push_cast; rfl⟩
  split
  · exact ⟨r * Real.sin t * Real.sin p, by push_cast; rfl⟩
  · exact ⟨r * Real.cos t, by push_cast; rfl⟩

/-- Dividing by a power of ten is multiplying by the opposite power, and the difference of the two sums of real numbers is one sum. -/
theorem join {n : ℕ} {ι : Type*} [DecidableEq ι] (r s : Fin n → ι) (a : ι) (f : Fin n → EReal) (hf : ∀ j, ∃ v : ℝ, f j = (v : EReal)) (l : ℝ) :
    (∑ j, f j * ((if r j = a then (1 : EReal) else 0) - (if s j = a then (1 : EReal) else 0))) * Ideal.pow (Ideal.ofBits .f32 1092616192#32) (-(l : EReal))
      = Ideal.div ((∑ j, if r j = a then f j else 0) - (∑ j, if s j = a then f j else 0)) (Ideal.pow (Ideal.ofBits .f32 1092616192#32) (l : EReal)) := by
  choose g hg using hf
  have hsum : ∀ h : Fin n → ℝ, (∑ j, (h j : EReal)) = ((∑ j, h j : ℝ) : EReal) := fun h =>
    (map_sum (⟨⟨Real.toEReal, EReal.coe_zero⟩, EReal.coe_add⟩ : ℝ →+ EReal) h Finset.univ).symm
  have hone : ∀ u : Fin n → ι, (∑ j, if u j = a then f j else 0) = ((∑ j, if u j = a then g j else 0 : ℝ) : EReal) := fun u => by
    rw [← hsum]
    refine Finset.sum_congr rfl fun j _ => ?_
    rw [hg]
    split <;> simp
  have hmul : (∑ j, f j * ((if r j = a then (1 : EReal) else 0) - (if s j = a then (1 : EReal) else 0)))
      = ((∑ j, ((if r j = a then g j else 0) - (if s j = a then g j else 0)) : ℝ) : EReal) := by
    rw [← hsum]
    refine Finset.sum_congr rfl fun j _ => ?_
    rw [hg, show (1 : EReal) = ((1 : ℝ) : EReal) from rfl, show (0 : EReal) = ((0 : ℝ) : EReal) from rfl]
    by_cases h1 : r j = a <;> by_cases h2 : s j = a <;> simp only [h1, h2, if_true, if_false] <;> rw [← EReal.coe_sub, ← EReal.coe_mul] <;> congr 1 <;> ring
  have hp : (0 : ℝ) < (10 : ℝ) ^ l := Real.rpow_pos_of_pos (by norm_num) l
  rw [hone, hone, hmul, ten, ← EReal.coe_neg, Ideal.pow_coe_coe, Ideal.pow_coe_coe]
  have e1 : Real.rpow 10 (-l) = ((10 : ℝ) ^ l)⁻¹ := Real.rpow_neg (by norm_num) l
  have e2 : Real.rpow 10 l = (10 : ℝ) ^ l := rfl
  rw [e1, e2, Ideal.div_coe hp.ne', ← EReal.coe_sub, ← EReal.coe_mul, ← EReal.coe_mul, Finset.sum_sub_distrib, one_div]

/-- A sum of eight whose last three are zero is a sum of five. -/
theorem sum8 (f : Fin 8 → EReal) (h : ∀ k : Fin 8, 5 ≤ k.val → f k = 0) : ∑ k, f k = ∑ k : Fin 5, f ⟨k.val, by omega⟩ := by
  rw [Fin.sum_univ_eight, Fin.sum_univ_five, h 5 (by decide), h 6 (by decide), h 7 (by decide), add_zero, add_zero, add_zero]
  rfl

/-- A layer over padded features with padded rows is the layer over the features there are. -/
theorem dense_pad {q : ℕ} (u : Fin 8 → EReal) (v : Fin 5 → EReal) (W : Fin 5 → Fin q → EReal) (b : Fin q → EReal)
    (h5 : ∀ k : Fin 5, u ⟨k.val, by omega⟩ = v k) (h0 : ∀ k : Fin 8, 5 ≤ k.val → u k = 0) :
    dense u (fun k j => if h : k.val < 5 then W ⟨k.val, h⟩ j else (0 : EReal)) b = dense v W b := by
  funext j
  unfold dense
  rw [sum8 _ (fun k hk => by rw [h0 k hk, zero_mul])]
  refine congrArg (fun s : EReal => Ideal.tanh (s + b j)) (Finset.sum_congr rfl fun k _ => ?_)
  rw [h5 k]
  simp only [k.isLt, dite_true]

end Cert.MathLemmas

end
-- ==== Proof.Join.lean ====
/- The kernel's result and the reference's are the same numbers. -/
module

public import proofs.«01_k».proof.Proof.KValue
public import proofs.«01_k».proof.Proof.RSum
public import proofs.«01_k».proof.Proof.MathLemmas

@[expose] public section

set_option maxRecDepth 16384

noncomputable section

namespace Cert.Join

open Idealize.ShloMosaic Idealize.ShloMosaic.TcCoe Idealize.SL.Sem
open Cert.KernelIdeal Cert.KernelIdeal.Gen
open Cert.KValue

variable (m : (ℓ : Loc nD τ sig) → Buf (Elt Ideal) ℓ) (ρ : Dev nD → PrngReg) (c : Dev nD)
variable (r s : Fin 120 → Fin 16)

/-- The same time step among the padded ones. -/
def tp (t : Fin 4000) : Fin 4096 := ⟨t.val, by have := t.isLt; omega⟩

/-- The pair an edge of the padded numbering joins. -/
theorem em_ed (t : Fin 4000) (j : Fin 120) : em120 (ed (tp t) j) = j :=
  Fin.ext (by have := j.isLt; show (t.val * 120 + j.val) % 120 = j.val; omega)

/-- The pair an edge of the reference's numbering joins. -/
theorem ec_ee (t : Fin 4000) (j : Fin 120) : Cert.RValue.ec (Cert.RValue.ee t j) = j :=
  Fin.ext (by have := j.isLt; show (t.val * 120 + j.val) % 120 = j.val; omega)

/-- An edge there is has its own coordinates. -/
theorem pd_ed (k : Fin 3) (t : Fin 4000) (j : Fin 120) : pd m c k (ed (tp t) j) = A0 m c (ix2 (Cert.RValue.ee t j) k) :=
  dif_pos (show t.val * 120 + j.val < 480000 by have := j.isLt; have := t.isLt; omega)

variable (h0 : ∀ e k, ∃ v : ℝ, A0 m c (ix2 e k) = (v : EReal))

include h0 in
/-- The kernel's five features of an edge are the reference's. -/
theorem feats (t : Fin 4000) (j : Fin 120) (k : Fin 5) :
    fx m c r s (ed (tp t) j) ⟨k.val, by omega⟩ = Cert.RValue.rfx r s (A0 m c) (A3 m c) (Cert.RValue.ee t j) k := by
  unfold fx Cert.RValue.rfx
  rw [em_ed, ec_ee, pd_ed, pd_ed, pd_ed]
  unfold lm
  obtain ⟨x, hx⟩ := h0 (Cert.RValue.ee t j) 0
  obtain ⟨y, hy⟩ := h0 (Cert.RValue.ee t j) 1
  obtain ⟨z, hz⟩ := h0 (Cert.RValue.ee t j) 2
  rw [hx, hy, hz]
  unfold feat Cert.RValue.rfeat Cert.RValue.rrad Cert.RValue.rpol Cert.RValue.rrad
  rw [MathLemmas.radius, MathLemmas.polar]
  have hk := k.isLt
  simp only [hk, if_true]

/-- The padded features are zero. -/
theorem feats_pad (e : Fin 491520) (k : Fin 8) (hk : 5 ≤ k.val) : fx m c r s e k = 0 := by
  unfold fx feat
  rw [if_neg (by omega), if_neg (by omega), if_neg (by omega), if_neg (by omega), if_neg (by omega)]

include h0 in
/-- The kernel's network with its bias is the reference's. -/
theorem nets (t : Fin 4000) (j : Fin 120) (k : Fin 3) :
    nx m c r s (ed (tp t) j) k + A11 m c (ix1 k)
      = Cert.RValue.rnet (A4 m c) (A5 m c) (A6 m c) (A7 m c) (A8 m c) (A9 m c) (A10 m c) (A11 m c)
          (Cert.RValue.rfx r s (A0 m c) (A3 m c) (Cert.RValue.ee t j)) k := by
  unfold nx net Cert.RValue.rnet
  refine congrArg (fun u : EReal => u + A11 m c (ix1 k)) (Finset.sum_congr rfl fun i _ => ?_)
  rw [mul_comm]
  have h := MathLemmas.dense_pad (fx m c r s (ed (tp t) j)) (Cert.RValue.rfx r s (A0 m c) (A3 m c) (Cert.RValue.ee t j))
    (fun q j => (A4 m c (ix2 q j) : EReal)) (fun j => A5 m c (ix1 j)) (fun q => feats m c r s h0 t j q) (fun q hq => feats_pad m c r s _ q hq)
  exact congrArg (fun f : Fin 128 → EReal => dense (dense f (fun k j => A6 m c (ix2 k j)) (fun j => A7 m c (ix1 j))) (fun k j => A8 m c (ix2 k j))
    (fun j => A9 m c (ix1 j)) i * A10 m c (ix2 i k)) h

include h0 in
/-- The kernel's vector of an edge is the reference's. -/
theorem vecs (t : Fin 4000) (j : Fin 120) (k : Fin 3) :
    cx m c r s (ed (tp t) j) k = Cert.RValue.rvec r s (A0 m c) (A3 m c) (A4 m c) (A5 m c) (A6 m c) (A7 m c) (A8 m c) (A9 m c) (A10 m c) (A11 m c)
      (Cert.RValue.ee t j) k := by
  unfold cx Cert.RValue.rvec
  rw [nets m c r s h0, nets m c r s h0, nets m c r s h0]

variable (h10 : ∀ j k, ∃ v : ℝ, A10 m c (ix2 j k) = (v : EReal)) (h11 : ∀ k, ∃ v : ℝ, A11 m c (ix1 k) = (v : EReal))

include h10 h11 in
/-- The network with its bias gives real numbers. -/
theorem nx_real (e : Fin 491520) (k : Fin 3) : ∃ v : ℝ, nx m c r s e k + A11 m c (ix1 k) = (v : EReal) := by
  obtain ⟨b, hb⟩ := h11 k
  have hs : ∃ v : ℝ, nx m c r s e k = (v : EReal) := by
    unfold nx net
    refine MathLemmas.sum_real _ _ fun j => ?_
    obtain ⟨w, hw⟩ := h10 j k
    obtain ⟨u, hu⟩ := MathLemmas.tanh_real (∑ i, dense (dense (fx m c r s e) (fun k j => if h : k.val < 5 then A4 m c (ix2 ⟨k.val, h⟩ j) else (0 : EReal))
      (fun j => A5 m c (ix1 j))) (fun k j => A6 m c (ix2 k j)) (fun j => A7 m c (ix1 j)) i * A8 m c (ix2 i j) + A9 m c (ix1 j))
    refine ⟨w * u, ?_⟩
    exact (congrArg₂ (fun a b : EReal => a * b) hw hu).trans (EReal.coe_mul w u).symm
  obtain ⟨v, hv⟩ := hs
  exact ⟨v + b, by rw [hv, hb, EReal.coe_add]⟩

include h10 h11 in
/-- The vector of an edge is made of real numbers. -/
theorem cx_real (e : Fin 491520) (k : Fin 3) : ∃ v : ℝ, cx m c r s e k = (v : EReal) := by
  obtain ⟨a, ha⟩ := nx_real m c r s h10 h11 e 0
  obtain ⟨b, hb⟩ := nx_real m c r s h10 h11 e 1
  obtain ⟨d, hd⟩ := nx_real m c r s h10 h11 e 2
  unfold cx
  rw [ha, hb, hd]
  exact MathLemmas.cart_real a b d k

variable (hr : ∀ j, A2 m c (ix1 j) = BitVec.ofNat 32 (r j).val) (hs : ∀ j, A1 m c (ix1 j) = BitVec.ofNat 32 (s j).val)

include h0 h10 h11 hr hs in
/-- The kernel's result array is the reference's. -/
theorem result : W13 m ρ c (Proc.devRef .tc main_v62)
    = Cert.ReferenceIdeal.Read.val_main_v90 (F := Ideal) (A0 m c) (A1 m c) (A2 m c) (A3 m c) (A4 m c) (A5 m c) (A6 m c) (A7 m c) (A8 m c) (A9 m c) (A10 m c) (A11 m c) := by
  funext x
  obtain ⟨i, k, rfl⟩ : ∃ (i : Fin 64000) (k : Fin 3), x = ix2 i k := ⟨x 0, x 1, funext fun a => match a with | ⟨0, _⟩ => rfl | ⟨1, _⟩ => rfl⟩
  have ht : i.val / 16 < 4000 := by have := i.isLt; omega
  have hn : i.val % 16 < 16 := by omega
  refine (s13 m ρ c r s hr hs i k (tp ⟨i.val / 16, ht⟩) ⟨i.val % 16, hn⟩ rfl rfl).trans ?_
  refine Eq.trans ?_ (Cert.RValue.v90_at (A1 m c) (A2 m c) r s hr hs (A0 m c) (A3 m c) (A4 m c) (A5 m c) (A6 m c) (A7 m c) (A8 m c) (A9 m c) (A10 m c) (A11 m c)
    i k ⟨i.val / 16, ht⟩ ⟨i.val % 16, hn⟩ rfl rfl).symm
  simp only [← vecs m c r s h0]
  obtain ⟨l, hl⟩ := MathLemmas.clip_real (A3 m c (ix1 ⟨i.val % 16, hn⟩))
  unfold lm
  rw [hl]
  exact MathLemmas.join r s _ _ (fun j => cx_real m c r s h10 h11 _ k) l

end Cert.Join

end
-- ==== Proof.Pre.lean ====
/- What the precondition says of the arguments. -/
module

public import proofs.«01_k».proof.Pre_usable
public import Idealize.ShloMosaic.Lib.Pointwise
public import Idealize.ShloMosaic.PureOps.Ideal.Laws
public import Idealize.ShloMosaic.Lib.WordCmp
public import Idealize.ShloMosaic.Lib.StableHlo.Predicate

@[expose] public section

set_option maxRecDepth 16384

noncomputable section

namespace Cert.Pre

open Idealize.ShloMosaic Cert.Pre_usable

/-- The predicate's broadcasts are well formed. -/
theorem facts : Cert.Pre_usable.Facts where
  bcast_S_S480000x3 := by decide
  bcast_S_S128x3 := by decide
  bcast_S_S3 := by decide
  bcast_S_S120 := by decide

/-- A number whose absolute value is below infinity is real. -/
theorem real_of_lt (a : EReal) (h : Ideal.cmp .olt (max a (-a)) (Ideal.ofBits .f32 0x7F800000#32) = 1#1) : ∃ v : ℝ, a = (v : EReal) := by
  have hi : Ideal.ofBits .f32 0x7F800000#32 = (⊤ : EReal) := by
    simp [Ideal.ofBits, Ideal.ieee, -EReal.coe_mul]
  rw [hi] at h
  induction a using EReal.rec with
  | bot => simp [Ideal.cmp] at h
  | coe r => exact ⟨r, rfl⟩
  | top => simp [Ideal.cmp] at h

/-- A word that is at least 0 and below 16, compared signed, is one of the sixteen. -/
theorem word16 (w : BitVec 32) (h : IntOp.andi (IntOp.cmpi .sge w 0#32) (IntOp.cmpi .slt w 16#32) = 1#1) : w = BitVec.ofNat 32 (w.toNat % 16) := by
  have h1 : IntOp.cmpi .sge w 0#32 = 1#1 ∧ IntOp.cmpi .slt w 16#32 = 1#1 := by
    revert h
    generalize IntOp.cmpi .sge w 0#32 = p
    generalize IntOp.cmpi .slt w 16#32 = q
    revert p q
    decide
  obtain ⟨a, b⟩ := h1
  have a' : (0#32).sle w = true :=
    (StableHlo.Predicate.ofBool_eq_one_iff _).1 a
  have b' : w.slt 16#32 = true :=
    (StableHlo.Predicate.ofBool_eq_one_iff _).1 b
  rw [BitVec.sle, decide_eq_true_eq] at a'
  rw [BitVec.slt, decide_eq_true_eq] at b'
  have e0 : (0#32 : BitVec 32).toInt = 0 := by decide
  have e1 : (16#32 : BitVec 32).toInt = 16 := by decide
  rw [e0] at a'
  rw [e1] at b'
  have hw := w.isLt
  have ht : w.toNat < 16 := by
    rw [BitVec.toInt_eq_toNat_cond] at a' b'
    split at a' <;> simp_all <;> omega
  apply BitVec.eq_of_toNat_eq
  rw [BitVec.toNat_ofNat]
  omega

section
variable (x0 : FVec Ideal S480000x3 .f32) (x1 x2 : IVec S120 32) (x3 : FVec Ideal S16 .f32) (x4 : FVec Ideal S5x128 .f32) (x5 : FVec Ideal S128 .f32)
  (x6 : FVec Ideal S128x128 .f32) (x7 : FVec Ideal S128 .f32) (x8 : FVec Ideal S128x128 .f32) (x9 : FVec Ideal S128 .f32) (x10 : FVec Ideal S128x3 .f32)
  (x11 : FVec Ideal S3 .f32) [hf : Cert.Pre_usable.Facts]

/-- The positions are real numbers. -/
theorem x0_real (h : (fn (F := Ideal) x0 x1 x2 x3 x4 x5 x6 x7 x8 x9 x10 x11).1 = fun _ => 1#1) (e : Fin 480000) (k : Fin 3) : ∃ v : ℝ, x0 (ix2 e k) = (v : EReal) :=
  real_of_lt _ (congrFun h (ix2 e k))

/-- The last weights are real numbers. -/
theorem x10_real (h : (fn (F := Ideal) x0 x1 x2 x3 x4 x5 x6 x7 x8 x9 x10 x11).2.1 = fun _ => 1#1) (j : Fin 128) (k : Fin 3) : ∃ v : ℝ, x10 (ix2 j k) = (v : EReal) :=
  real_of_lt _ (congrFun h (ix2 j k))

/-- The last biases are real numbers. -/
theorem x11_real (h : (fn (F := Ideal) x0 x1 x2 x3 x4 x5 x6 x7 x8 x9 x10 x11).2.2.1 = fun _ => 1#1) (k : Fin 3) : ∃ v : ℝ, x11 (ix1 k) = (v : EReal) :=
  real_of_lt _ (congrFun h (ix1 k))

/-- Every sender is one of the sixteen planets. -/
theorem x1_word (h : (fn (F := Ideal) x0 x1 x2 x3 x4 x5 x6 x7 x8 x9 x10 x11).2.2.2.1 = fun _ => 1#1) (j : Fin 120) : x1 (ix1 j) = BitVec.ofNat 32 ((x1 (ix1 j)).toNat % 16) :=
  word16 _ (congrFun h (ix1 j))

/-- Every receiver is one of the sixteen planets. -/
theorem x2_word (h : (fn (F := Ideal) x0 x1 x2 x3 x4 x5 x6 x7 x8 x9 x10 x11).2.2.2.2 = fun _ => 1#1) (j : Fin 120) : x2 (ix1 j) = BitVec.ofNat 32 ((x2 (ix1 j)).toNat % 16) :=
  word16 _ (congrFun h (ix1 j))
end

end Cert.Pre

end
-- ==== Proof.Algebraic.lean ====
/- The two programs' results are equal. -/
module

public import proofs.«01_k».proof.Defs
public import proofs.«01_k».proof.Proof.KRun
public import proofs.«01_k».proof.Proof.Join
public import proofs.«01_k».proof.Proof.Pre
public import proofs.«01_k».proof.Proof.Gen.ReferenceIdeal.Run

@[expose] public section

set_option maxRecDepth 16384

noncomputable section

namespace Cert.Proof

open Idealize.ShloMosaic Idealize.ShloMosaic.TcCoe Idealize.SL.Sem
open Cert.KValue

/-- The node a word names. -/
def node (w : BitVec 32) : Fin 16 := ⟨w.toNat % 16, Nat.mod_lt _ (by decide)⟩

/-- Under the precondition the kernel's result array is the reference's function of the arguments. -/
theorem same (m : (ℓ : Loc Cert.KernelIdeal.nD Cert.KernelIdeal.τ Cert.KernelIdeal.sig) → Buf (Elt Ideal) ℓ) (ρ : Dev Cert.KernelIdeal.nD → PrngReg)
    (h : Cert.Pre_KernelIdeal_usable (hPre_usable := Cert.Pre.facts) m) (c : Dev Cert.KernelIdeal.nD) :
    Cert.KernelIdeal.Gen.W13 m ρ c (Proc.devRef .tc Cert.KernelIdeal.main_v62)
      = Cert.ReferenceIdeal.Read.val_main_v90 (F := Ideal) (A0 m c) (A1 m c) (A2 m c) (A3 m c) (A4 m c) (A5 m c) (A6 m c) (A7 m c) (A8 m c) (A9 m c) (A10 m c) (A11 m c) := by
  haveI := Cert.Pre.facts
  obtain ⟨p0, p10, p11, p1, p2⟩ := h c
  exact Cert.Join.result m ρ c (fun j => node (A2 m c (ix1 j))) (fun j => node (A1 m c (ix1 j)))
    (fun e k => Cert.Pre.x0_real (A0 m c) (A1 m c) (A2 m c) (A3 m c) (A4 m c) (A5 m c) (A6 m c) (A7 m c) (A8 m c) (A9 m c) (A10 m c) (A11 m c) p0 e k)
    (fun j k => Cert.Pre.x10_real (A0 m c) (A1 m c) (A2 m c) (A3 m c) (A4 m c) (A5 m c) (A6 m c) (A7 m c) (A8 m c) (A9 m c) (A10 m c) (A11 m c) p10 j k)
    (fun k => Cert.Pre.x11_real (A0 m c) (A1 m c) (A2 m c) (A3 m c) (A4 m c) (A5 m c) (A6 m c) (A7 m c) (A8 m c) (A9 m c) (A10 m c) (A11 m c) p11 k)
    (fun j => Cert.Pre.x2_word (A0 m c) (A1 m c) (A2 m c) (A3 m c) (A4 m c) (A5 m c) (A6 m c) (A7 m c) (A8 m c) (A9 m c) (A10 m c) (A11 m c) p2 j)
    (fun j => Cert.Pre.x1_word (A0 m c) (A1 m c) (A2 m c) (A3 m c) (A4 m c) (A5 m c) (A6 m c) (A7 m c) (A8 m c) (A9 m c) (A10 m c) (A11 m c) p1 j)

/-- The kernel and the reference, started with the same arguments, end with the same result array. -/
theorem algebraic : Cert.algebraic_KernelIdeal_ReferenceIdeal_pre_usable (hPre_usable := Cert.Pre.facts) := by
  intro m g m' g' hp ha
  refine ⟨fun c => Cert.KernelIdeal.Gen.W13 m g c (Proc.devRef .tc Cert.KernelIdeal.main_v62),
    (θ_run Cert.KernelIdeal.defs _ _).mono (fun r h => h.1) (Cert.KRun.run (F := Ideal) m g),
    (θ_run Cert.ReferenceIdeal.defs _ _).mono (fun r h c => ⟨?_, (h c).2⟩) (Cert.ReferenceIdeal.Value.run (F := Ideal) m' g')⟩
  refine ((h c).1.trans (Cert.ReferenceIdeal.Read.val_main_v90_eq (StableHlo.launchContents m' c))).trans (Eq.trans ?_ (same m g hp c).symm)
  obtain ⟨h0, h1, h2, h3, h4, h5, h6, h7, h8, h9, h10, h11⟩ := ha c
  exact congr (congr (congr (congr (congr (congr (congr (congr (congr (congr (congr (congrArg (Cert.ReferenceIdeal.Read.val_main_v90 (F := Ideal)) h0) h1) h2) h3) h4) h5) h6) h7) h8) h9) h10) h11

end Cert.Proof

end
-- ==== Proof.lean ====
/- The proof of the claim. -/
module

public import proofs.«01_k».proof.Defs
public import proofs.«01_k».proof.Proof.Gen.Kernel.Frame
public import proofs.«01_k».proof.Proof.Gen.KernelIdeal.Frame
public import proofs.«01_k».proof.Proof.RefFrame
public import proofs.«01_k».proof.Proof.Algebraic

@[expose] public section

noncomputable section

namespace Cert.Proof

open Idealize.ShloMosaic Idealize.SL.Sem Cert.Kernel

/-- The claim: the two kernel programs' frames, the reference's, the idealization, and the equality of the results. -/
theorem claim : Cert.Claim := ⟨Cert.Kernel.Gen.facts, Cert.KernelIdeal.Gen.facts, Cert.ReferenceIdeal.Gen.facts, Cert.Pre.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, algebraic⟩

end Cert.Proof

end
